-- ==== Defs.lean ====
def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite [hPre_finite : Cert.Pre_finite.Facts] (m : (ℓ : Loc Cert.LayerIdeal.nD Cert.LayerIdeal.τ Cert.LayerIdeal.sig) → Buf (Elt Ideal) ℓ) : Prop :=
  ∀ c : Dev Cert.LayerIdeal.nD,
    (Cert.Pre_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10))) = (fun _ => 1#1)

def Pre_LayerRefIdeal (m : (ℓ : Loc Cert.LayerRefIdeal.nD Cert.LayerRefIdeal.τ Cert.LayerRefIdeal.sig) → Buf (Elt Ideal) ℓ) : Prop :=
  True

def Pre_LayerRefIdeal_finite [hPre_finite : Cert.Pre_finite.Facts] (m : (ℓ : Loc Cert.LayerRefIdeal.nD Cert.LayerRefIdeal.τ Cert.LayerRefIdeal.sig) → Buf (Elt Ideal) ℓ) : Prop :=
  ∀ c : Dev Cert.LayerRefIdeal.nD,
    (Cert.Pre_finite.fn (F := Ideal) (m ((c.tc : Thread Cert.LayerRefIdeal.nD Cert.LayerRefIdeal.τ).loc Cert.LayerRefIdeal.main_arg0)) (m ((c.tc : Thread Cert.LayerRefIdeal.nD Cert.LayerRefIdeal.τ).loc Cert.LayerRefIdeal.main_arg1)) (m ((c.tc : Thread Cert.LayerRefIdeal.nD Cert.LayerRefIdeal.τ).loc Cert.LayerRefIdeal.main_arg2)) (m ((c.tc : Thread Cert.LayerRefIdeal.nD Cert.LayerRefIdeal.τ).loc Cert.LayerRefIdeal.main_arg3)) (m ((c.tc : Thread Cert.LayerRefIdeal.nD Cert.LayerRefIdeal.τ).loc Cert.LayerRefIdeal.main_arg4)) (m ((c.tc : Thread Cert.LayerRefIdeal.nD Cert.LayerRefIdeal.τ).loc Cert.LayerRefIdeal.main_arg5)) (m ((c.tc : Thread Cert.LayerRefIdeal.nD Cert.LayerRefIdeal.τ).loc Cert.LayerRefIdeal.main_arg6)) (m ((c.tc : Thread Cert.LayerRefIdeal.nD Cert.LayerRefIdeal.τ).loc Cert.LayerRefIdeal.main_arg7)) (m ((c.tc : Thread Cert.LayerRefIdeal.nD Cert.LayerRefIdeal.τ).loc Cert.LayerRefIdeal.main_arg8)) (m ((c.tc : Thread Cert.LayerRefIdeal.nD Cert.LayerRefIdeal.τ).loc Cert.LayerRefIdeal.main_arg9)) (m ((c.tc : Thread Cert.LayerRefIdeal.nD Cert.LayerRefIdeal.τ).loc Cert.LayerRefIdeal.main_arg10))) = (fun _ => 1#1)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ r.2.sem = fun _ => 0)

def quiescent_LayerIdeal_pre_finite [hLayerIdeal : Cert.LayerIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ r.2.sem = fun _ => 0)

def quiescent_LayerRefIdeal [hLayerRefIdeal : Cert.LayerRefIdeal.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
      ∧ r.2.sem = fun _ => 0)

def quiescent_LayerRefIdeal_pre_finite [hLayerRefIdeal : Cert.LayerRefIdeal.Facts] [hPre_finite : Cert.Pre_finite.Facts] : Prop :=
  ∀ (m : (ℓ : Loc Cert.LayerRefIdeal.nD Cert.LayerRefIdeal.τ Cert.LayerRefIdeal.sig) → Buf (Elt Ideal) ℓ) (g : Dev Cert.LayerRefIdeal.nD → PrngReg), Pre_LayerRefIdeal_finite m →
    θ_run (Cert.LayerRefIdeal.defs (F := Ideal)) (onTc (τ := Cert.LayerRefIdeal.τ) (Cert.LayerRefIdeal.main (F := Ideal))) ⟨m, fun _ => 0, g⟩ (fun r => (∀ c : Dev Cert.LayerRefIdeal.nD,
      r.2.mem ((c.tc : Thread Cert.LayerRefIdeal.nD Cert.LayerRefIdeal.τ).loc Cert.LayerRefIdeal.main_arg0) = m ((c.tc : Thread Cert.LayerRefIdeal.nD Cert.LayerRefIdeal.τ).loc Cert.LayerRefIdeal.main_arg0)
      ∧ r.2.mem ((c.tc : Thread Cert.LayerRefIdeal.nD Cert.LayerRefIdeal.τ).loc Cert.LayerRefIdeal.main_arg1) = m ((c.tc : Thread Cert.LayerRefIdeal.nD Cert.LayerRefIdeal.τ).loc Cert.LayerRefIdeal.main_arg1)
      ∧ r.2.mem ((c.tc : Thread Cert.LayerRefIdeal.nD Cert.LayerRefIdeal.τ).loc Cert.LayerRefIdeal.main_arg2) = m ((c.tc : Thread Cert.LayerRefIdeal.nD Cert.LayerRefIdeal.τ).loc Cert.LayerRefIdeal.main_arg2)
      ∧ r.2.mem ((c.tc : Thread Cert.LayerRefIdeal.nD Cert.LayerRefIdeal.τ).loc Cert.LayerRefIdeal.main_arg3) = m ((c.tc : Thread Cert.LayerRefIdeal.nD Cert.LayerRefIdeal.τ).loc Cert.LayerRefIdeal.main_arg3)
      ∧ r.2.mem ((c.tc : Thread Cert.LayerRefIdeal.nD Cert.LayerRefIdeal.τ).loc Cert.LayerRefIdeal.main_arg4) = m ((c.tc : Thread Cert.LayerRefIdeal.nD Cert.LayerRefIdeal.τ).loc Cert.LayerRefIdeal.main_arg4)
      ∧ r.2.mem ((c.tc : Thread Cert.LayerRefIdeal.nD Cert.LayerRefIdeal.τ).loc Cert.LayerRefIdeal.main_arg5) = m ((c.tc : Thread Cert.LayerRefIdeal.nD Cert.LayerRefIdeal.τ).loc Cert.LayerRefIdeal.main_arg5)
      ∧ r.2.mem ((c.tc : Thread Cert.LayerRefIdeal.nD Cert.LayerRefIdeal.τ).loc Cert.LayerRefIdeal.main_arg6) = m ((c.tc : Thread Cert.LayerRefIdeal.nD Cert.LayerRefIdeal.τ).loc Cert.LayerRefIdeal.main_arg6)
      ∧ r.2.mem ((c.tc : Thread Cert.LayerRefIdeal.nD Cert.LayerRefIdeal.τ).loc Cert.LayerRefIdeal.main_arg7) = m ((c.tc : Thread Cert.LayerRefIdeal.nD Cert.LayerRefIdeal.τ).loc Cert.LayerRefIdeal.main_arg7)
      ∧ r.2.mem ((c.tc : Thread Cert.LayerRefIdeal.nD Cert.LayerRefIdeal.τ).loc Cert.LayerRefIdeal.main_arg8) = m ((c.tc : Thread Cert.LayerRefIdeal.nD Cert.LayerRefIdeal.τ).loc Cert.LayerRefIdeal.main_arg8)
      ∧ r.2.mem ((c.tc : Thread Cert.LayerRefIdeal.nD Cert.LayerRefIdeal.τ).loc Cert.LayerRefIdeal.main_arg9) = m ((c.tc : Thread Cert.LayerRefIdeal.nD Cert.LayerRefIdeal.τ).loc Cert.LayerRefIdeal.main_arg9)
      ∧ r.2.mem ((c.tc : Thread Cert.LayerRefIdeal.nD Cert.LayerRefIdeal.τ).loc Cert.LayerRefIdeal.main_arg10) = m ((c.tc : Thread Cert.LayerRefIdeal.nD Cert.LayerRefIdeal.τ).loc Cert.LayerRefIdeal.main_arg10))
      ∧ r.2.sem = fun _ => 0)

def preserves_Layer_LayerIdeal : Prop :=
  True

def algebraic_LayerIdeal_LayerRefIdeal_pre_finite [hLayerIdeal : Cert.LayerIdeal.Facts] [hLayerRefIdeal : Cert.LayerRefIdeal.Facts] [hPre_finite : Cert.Pre_finite.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerRefIdeal.nD Cert.LayerRefIdeal.τ Cert.LayerRefIdeal.sig) → Buf (Elt Ideal) ℓ) (g' : Dev Cert.LayerRefIdeal.nD → PrngReg), Pre_LayerIdeal_finite m →
    (∀ c : Dev Cert.LayerIdeal.nD,
      m' ((c.tc : Thread Cert.LayerRefIdeal.nD Cert.LayerRefIdeal.τ).loc Cert.LayerRefIdeal.main_arg0) = m ((c.tc : Thread Cert.LayerIdeal.nD Cert.LayerIdeal.τ).loc Cert.LayerIdeal.main_arg0)
      ∧ m' ((c.tc : Thread Cert.LayerRefIdeal.nD Cert.LayerRefIdeal.τ).loc Cert.LayerRefIdeal.main_arg1) = m ((c.tc : Thread Cert.LayerIdeal.nD Cert.LayerIdeal.τ).loc Cert.LayerIdeal.main_arg1)
      ∧ m' ((c.tc : Thread Cert.LayerRefIdeal.nD Cert.LayerRefIdeal.τ).loc Cert.LayerRefIdeal.main_arg2) = m ((c.tc : Thread Cert.LayerIdeal.nD Cert.LayerIdeal.τ).loc Cert.LayerIdeal.main_arg2)
      ∧ m' ((c.tc : Thread Cert.LayerRefIdeal.nD Cert.LayerRefIdeal.τ).loc Cert.LayerRefIdeal.main_arg3) = m ((c.tc : Thread Cert.LayerIdeal.nD Cert.LayerIdeal.τ).loc Cert.LayerIdeal.main_arg3)
      ∧ m' ((c.tc : Thread Cert.LayerRefIdeal.nD Cert.LayerRefIdeal.τ).loc Cert.LayerRefIdeal.main_arg4) = m ((c.tc : Thread Cert.LayerIdeal.nD Cert.LayerIdeal.τ).loc Cert.LayerIdeal.main_arg4)
      ∧ m' ((c.tc : Thread Cert.LayerRefIdeal.nD Cert.LayerRefIdeal.τ).loc Cert.LayerRefIdeal.main_arg5) = m ((c.tc : Thread Cert.LayerIdeal.nD Cert.LayerIdeal.τ).loc Cert.LayerIdeal.main_arg5)
      ∧ m' ((c.tc : Thread Cert.LayerRefIdeal.nD Cert.LayerRefIdeal.τ).loc Cert.LayerRefIdeal.main_arg6) = m ((c.tc : Thread Cert.LayerIdeal.nD Cert.LayerIdeal.τ).loc Cert.LayerIdeal.main_arg6)
      ∧ m' ((c.tc : Thread Cert.LayerRefIdeal.nD Cert.LayerRefIdeal.τ).loc Cert.LayerRefIdeal.main_arg7) = m ((c.tc : Thread Cert.LayerIdeal.nD Cert.LayerIdeal.τ).loc Cert.LayerIdeal.main_arg7)
      ∧ m' ((c.tc : Thread Cert.LayerRefIdeal.nD Cert.LayerRefIdeal.τ).loc Cert.LayerRefIdeal.main_arg8) = m ((c.tc : Thread Cert.LayerIdeal.nD Cert.LayerIdeal.τ).loc Cert.LayerIdeal.main_arg8)
      ∧ m' ((c.tc : Thread Cert.LayerRefIdeal.nD Cert.LayerRefIdeal.τ).loc Cert.LayerRefIdeal.main_arg9) = m ((c.tc : Thread Cert.LayerIdeal.nD Cert.LayerIdeal.τ).loc Cert.LayerIdeal.main_arg9)
      ∧ m' ((c.tc : Thread Cert.LayerRefIdeal.nD Cert.LayerRefIdeal.τ).loc Cert.LayerRefIdeal.main_arg10) = m ((c.tc : Thread Cert.LayerIdeal.nD Cert.LayerIdeal.τ).loc Cert.LayerIdeal.main_arg10)) →
    ∃ (v0 : (c : Dev Cert.LayerIdeal.nD) → Buf (Elt Ideal) ((c.tc : Thread Cert.LayerIdeal.nD Cert.LayerIdeal.τ).loc Cert.LayerIdeal.main_v123)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v123) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10))
      ∧ θ_run (Cert.LayerRefIdeal.defs (F := Ideal)) (onTc (τ := Cert.LayerRefIdeal.τ) (Cert.LayerRefIdeal.main (F := Ideal))) ⟨m', fun _ => 0, g'⟩ (fun r => ∀ c : Dev Cert.LayerRefIdeal.nD,
          r.2.mem ((c.tc : Thread Cert.LayerRefIdeal.nD Cert.LayerRefIdeal.τ).loc Cert.LayerRefIdeal.main_v245) = v0 c
          ∧ r.2.mem ((c.tc : Thread Cert.LayerRefIdeal.nD Cert.LayerRefIdeal.τ).loc Cert.LayerRefIdeal.main_arg0) = m' ((c.tc : Thread Cert.LayerRefIdeal.nD Cert.LayerRefIdeal.τ).loc Cert.LayerRefIdeal.main_arg0)
          ∧ r.2.mem ((c.tc : Thread Cert.LayerRefIdeal.nD Cert.LayerRefIdeal.τ).loc Cert.LayerRefIdeal.main_arg1) = m' ((c.tc : Thread Cert.LayerRefIdeal.nD Cert.LayerRefIdeal.τ).loc Cert.LayerRefIdeal.main_arg1)
          ∧ r.2.mem ((c.tc : Thread Cert.LayerRefIdeal.nD Cert.LayerRefIdeal.τ).loc Cert.LayerRefIdeal.main_arg2) = m' ((c.tc : Thread Cert.LayerRefIdeal.nD Cert.LayerRefIdeal.τ).loc Cert.LayerRefIdeal.main_arg2)
          ∧ r.2.mem ((c.tc : Thread Cert.LayerRefIdeal.nD Cert.LayerRefIdeal.τ).loc Cert.LayerRefIdeal.main_arg3) = m' ((c.tc : Thread Cert.LayerRefIdeal.nD Cert.LayerRefIdeal.τ).loc Cert.LayerRefIdeal.main_arg3)
          ∧ r.2.mem ((c.tc : Thread Cert.LayerRefIdeal.nD Cert.LayerRefIdeal.τ).loc Cert.LayerRefIdeal.main_arg4) = m' ((c.tc : Thread Cert.LayerRefIdeal.nD Cert.LayerRefIdeal.τ).loc Cert.LayerRefIdeal.main_arg4)
          ∧ r.2.mem ((c.tc : Thread Cert.LayerRefIdeal.nD Cert.LayerRefIdeal.τ).loc Cert.LayerRefIdeal.main_arg5) = m' ((c.tc : Thread Cert.LayerRefIdeal.nD Cert.LayerRefIdeal.τ).loc Cert.LayerRefIdeal.main_arg5)
          ∧ r.2.mem ((c.tc : Thread Cert.LayerRefIdeal.nD Cert.LayerRefIdeal.τ).loc Cert.LayerRefIdeal.main_arg6) = m' ((c.tc : Thread Cert.LayerRefIdeal.nD Cert.LayerRefIdeal.τ).loc Cert.LayerRefIdeal.main_arg6)
          ∧ r.2.mem ((c.tc : Thread Cert.LayerRefIdeal.nD Cert.LayerRefIdeal.τ).loc Cert.LayerRefIdeal.main_arg7) = m' ((c.tc : Thread Cert.LayerRefIdeal.nD Cert.LayerRefIdeal.τ).loc Cert.LayerRefIdeal.main_arg7)
          ∧ r.2.mem ((c.tc : Thread Cert.LayerRefIdeal.nD Cert.LayerRefIdeal.τ).loc Cert.LayerRefIdeal.main_arg8) = m' ((c.tc : Thread Cert.LayerRefIdeal.nD Cert.LayerRefIdeal.τ).loc Cert.LayerRefIdeal.main_arg8)
          ∧ r.2.mem ((c.tc : Thread Cert.LayerRefIdeal.nD Cert.LayerRefIdeal.τ).loc Cert.LayerRefIdeal.main_arg9) = m' ((c.tc : Thread Cert.LayerRefIdeal.nD Cert.LayerRefIdeal.τ).loc Cert.LayerRefIdeal.main_arg9)
          ∧ r.2.mem ((c.tc : Thread Cert.LayerRefIdeal.nD Cert.LayerRefIdeal.τ).loc Cert.LayerRefIdeal.main_arg10) = m' ((c.tc : Thread Cert.LayerRefIdeal.nD Cert.LayerRefIdeal.τ).loc Cert.LayerRefIdeal.main_arg10))

def Claim : Prop :=
  ∃ (hLayer : Cert.Layer.Facts) (hLayerIdeal : Cert.LayerIdeal.Facts) (hLayerRefIdeal : Cert.LayerRefIdeal.Facts) (hPre_finite : Cert.Pre_finite.Facts),
    quiescent_Layer (hLayer := hLayer)
    ∧ quiescent_LayerIdeal (hLayerIdeal := hLayerIdeal)
    ∧ quiescent_LayerIdeal_pre_finite (hLayerIdeal := hLayerIdeal) (hPre_finite := hPre_finite)
    ∧ quiescent_LayerRefIdeal (hLayerRefIdeal := hLayerRefIdeal)
    ∧ quiescent_LayerRefIdeal_pre_finite (hLayerRefIdeal := hLayerRefIdeal) (hPre_finite := hPre_finite)
    ∧ preserves_Layer_LayerIdeal
    ∧ algebraic_LayerIdeal_LayerRefIdeal_pre_finite (hLayerIdeal := hLayerIdeal) (hLayerRefIdeal := hLayerRefIdeal) (hPre_finite := hPre_finite)
-- ==== Pre_finite.lean ====
abbrev S16x2048x1024 : Shape := ⟨3, ![16, 2048, 1024]⟩
abbrev S1024 : Shape := ⟨1, ![1024]⟩
abbrev S1024x1280 : Shape := ⟨2, ![1024, 1280]⟩
abbrev S64 : Shape := ⟨1, ![64]⟩
abbrev S8x64x64 : Shape := ⟨3, ![8, 64, 64]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1280 : S_.BroadcastsInDim S1024x1280 (![] : Fin 0 → Fin S1024x1280.rank)
  reducesTo_S1024x1280_S_d0_1 : S1024x1280.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_

variable [Facts]

def fn_part1 {F : FTy → Type} [FloatOps F] (main_arg5 : FVec F S8x64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg5
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  main_v23

def fn {F : FTy → Type} [FloatOps F] (main_arg0 : FVec F S16x2048x1024 .f32) (main_arg1 : FVec F S1024 .f32) (main_arg2 : FVec F S1024x1280 .f32) (main_arg3 : FVec F S64 .f32) (main_arg4 : FVec F S64 .f32) (main_arg5 : FVec F S8x64x64 .f32) (main_arg6 : FVec F S1024x1024 .f32) (main_arg7 : FVec F S1024 .f32) (main_arg8 : FVec F S1024x4096 .f32) (main_arg9 : FVec F S4096x1024 .f32) (main_arg10 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1280 .f32 := Host.absf main_arg2
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  let main_c_1 : IVec S_ 1 := constantI S_ 1 1#1
  let main_v7 : IVec S_ 1 := (fun x v => Host.reduce IntOp.andi x v reducesTo_S1024x1280_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Layer.lean ====
abbrev S16x2048x1024 : Shape := ⟨3, ![16, 2048, 1024]⟩
abbrev S1024 : Shape := ⟨1, ![1024]⟩
abbrev S1024x1280 : Shape := ⟨2, ![1024, 1280]⟩
abbrev S64 : Shape := ⟨1, ![64]⟩
abbrev S8x64x64 : Shape := ⟨3, ![8, 64, 64]⟩
abbrev S1024x1024 : Shape := ⟨2, ![1024, 1024]⟩
abbrev S1024x4096 : Shape := ⟨2, ![1024, 4096]⟩
abbrev S4096x1024 : Shape := ⟨2, ![4096, 1024]⟩
abbrev S256x256 : Shape := ⟨2, ![256, 256]⟩
abbrev S128x128 : Shape := ⟨2, ![128, 128]⟩
abbrev S32768x1024 : Shape := ⟨2, ![32768, 1024]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1024 : Shape := ⟨2, ![1, 1024]⟩
abbrev S32768x512 : Shape := ⟨2, ![32768, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1280 : Shape := ⟨2, ![512, 1280]⟩
abbrev S512x256 : Shape := ⟨2, ![512, 256]⟩
abbrev S2048x256 : Shape := ⟨2, ![2048, 256]⟩
abbrev S1x256 : Shape := ⟨2, ![1, 256]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S4x4 : Shape := ⟨2, ![4, 4]⟩
abbrev S2x4x64x64 : Shape := ⟨4, ![2, 4, 64, 64]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2048x512 : Shape := ⟨2, ![2048, 512]⟩
abbrev S1x256x256 : Shape := ⟨3, ![1, 256, 256]⟩
abbrev S512x2048 : Shape := ⟨2, ![512, 2048]⟩

abbrev nBuf : Space → Nat
  | .hbm => 163
  | .vmem => 50
  | .smem => 0
  | _ => 0

abbrev hbmTy0_0 (i : Nat) : BufTy := match i % 128 with
  | 0 => ⟨S16x2048x1024, .f32⟩
  | 1 => ⟨S1024, .f32⟩
  | 2 => ⟨S1024x1280, .f32⟩
  | 3 => ⟨S64, .f32⟩
  | 4 => ⟨S64, .f32⟩
  | 5 => ⟨S8x64x64, .f32⟩
  | 6 => ⟨S1024x1024, .f32⟩
  | 7 => ⟨S1024, .f32⟩
  | 8 => ⟨S1024x4096, .f32⟩
  | 9 => ⟨S4096x1024, .f32⟩
  | 10 => ⟨S1024, .f32⟩
  | 11 => ⟨S256x256, .f32⟩
  | 12 => ⟨S128x128, .f32⟩
  | 13 => ⟨S32768x1024, .f32⟩
  | 14 => ⟨S32, .i32⟩
  | 15 => ⟨S32x64, .i32⟩
  | 16 => ⟨S2048, .i32⟩
  | 17 => ⟨S64, .i32⟩
  | 18 => ⟨S1x64, .i32⟩
  | 19 => ⟨S32x64, .i32⟩
  | 20 => ⟨S2048, .i32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S2048, .f32⟩
  | 36 => ⟨S2048x1, .f32⟩
  | 37 => ⟨S1x16, .f32⟩
  | 38 => ⟨S2048x16, .f32⟩
  | 39 => ⟨S2048x16, .f32⟩
  | 40 => ⟨S2048x16, .f32⟩
  | 41 => ⟨S2048, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048x16, .f32⟩
  | 48 => ⟨S2048x16, .f32⟩
  | 49 => ⟨S2048x16, .f32⟩
  | 50 => ⟨S2048x16, .f32⟩
  | 51 => ⟨S2048x64, .f32⟩
  | 52 => ⟨S2048x16, .f32⟩
  | 53 => ⟨S2048x16, .f32⟩
  | 54 => ⟨S2048x64, .f32⟩
  | 55 => ⟨S1x2048x1x64, .f32⟩
  | 56 => ⟨S1x2048x2x64, .f32⟩
  | 57 => ⟨S2048x128, .f32⟩
  | 58 => ⟨S1x2048x1x64, .f32⟩
  | 59 => ⟨S1x2048x2x64, .f32⟩
  | 60 => ⟨S2048x128, .f32⟩
  | 61 => ⟨S1x64, .f32⟩
  | 62 => ⟨S1x1x1x64, .f32⟩
  | 63 => ⟨S1x1x2x64, .f32⟩
  | 64 => ⟨S1x128, .f32⟩
  | 65 => ⟨S1x64, .f32⟩
  | 66 => ⟨S1x1x1x64, .f32⟩
  | 67 => ⟨S1x1x2x64, .f32⟩
  | 68 => ⟨S1x128, .f32⟩
  | 69 => ⟨S256x256, .bf16⟩
  | 70 => ⟨S128x128, .bf16⟩
  | 71 => ⟨S1x1024, .f32⟩
  | 72 => ⟨S1024x1280, .bf16⟩
  | 73 => ⟨S32768x512, .bf16⟩
  | 74 => ⟨S32768x512, .bf16⟩
  | 75 => ⟨S32768x512, .bf16⟩
  | 76 => ⟨S32768x512, .bf16⟩
  | 77 => ⟨S32768x512, .bf16⟩
  | 78 => ⟨S2048x2048, .i32⟩
  | 79 => ⟨S2048x2048, .i32⟩
  | 80 => ⟨S2048x2048, .i32⟩
  | 81 => ⟨S_, .i32⟩
  | 82 => ⟨S2048x2048, .i32⟩
  | 83 => ⟨S2048x2048, .i32⟩
  | 84 => ⟨S2048x2048, .f32⟩
  | 85 => ⟨S_, .f32⟩
  | 86 => ⟨S2048x2048, .f32⟩
  | 87 => ⟨S2048x2048, .f32⟩
  | 88 => ⟨S2048x2048, .f32⟩
  | 89 => ⟨S_, .f32⟩
  | 90 => ⟨S2048x2048, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S256x256, .i32⟩
  | 97 => ⟨S256x256, .i32⟩
  | 98 => ⟨S_, .i32⟩
  | 99 => ⟨S256x256, .i32⟩
  | 100 => ⟨S256x256, .i32⟩
  | 101 => ⟨S_, .i32⟩
  | 102 => ⟨S256x256, .i32⟩
  | 103 => ⟨S256x256, .i32⟩
  | 104 => ⟨S256x256, .i32⟩
  | 105 => ⟨S_, .i32⟩
  | 106 => ⟨S256x256, .i32⟩
  | 107 => ⟨S256x256, .i32⟩
  | 108 => ⟨S256x256, .f32⟩
  | 109 => ⟨S_, .f32⟩
  | 110 => ⟨S256x256, .f32⟩
  | 111 => ⟨S256x256, .f32⟩
  | 112 => ⟨S256x256, .f32⟩
  | 113 => ⟨S_, .f32⟩
  | 114 => ⟨S256x256, .f32⟩
  | 115 => ⟨S256x256, .f32⟩
  | 116 => ⟨S256x256, .f32⟩
  | 117 => ⟨S_, .f32⟩
  | 118 => ⟨S256x256, .f32⟩
  | 119 => ⟨S256x256, .f32⟩
  | 120 => ⟨S_, .i32⟩
  | 121 => ⟨S256x256, .i32⟩
  | 122 => ⟨S256x256, .i32⟩
  | 123 => ⟨S_, .i32⟩
  | 124 => ⟨S256x256, .i32⟩
  | 125 => ⟨S256x256, .i32⟩
  | 126 => ⟨S256x256, .i1⟩
  | 127 => ⟨S2048x2048, .f32⟩
  | _ => ⟨S16x2048x1024, .f32⟩

abbrev hbmTy0_1 (i : Nat) : BufTy := match i % 128 with
  | 0 => ⟨S_, .f32⟩
  | 1 => ⟨S_, .f32⟩
  | 2 => ⟨S256x256, .f32⟩
  | 3 => ⟨S256x256, .f32⟩
  | 4 => ⟨S_, .f32⟩
  | 5 => ⟨S_, .f32⟩
  | 6 => ⟨S256x256, .f32⟩
  | 7 => ⟨S256x256, .f32⟩
  | 8 => ⟨S4x4, .i32⟩
  | 9 => ⟨S4x4, .i32⟩
  | 10 => ⟨S_, .i32⟩
  | 11 => ⟨S4x4, .i32⟩
  | 12 => ⟨S4x4, .i32⟩
  | 13 => ⟨S4x4, .i1⟩
  | 14 => ⟨S4x4, .f32⟩
  | 15 => ⟨S2x4x64x64, .f32⟩
  | 16 => ⟨S2x4x64x1x64, .f32⟩
  | 17 => ⟨S1x4x1x4x1, .f32⟩
  | 18 => ⟨S2x4x64x4x64, .f32⟩
  | 19 => ⟨S2x4x64x4x64, .f32⟩
  | 20 => ⟨S2x4x64x4x64, .f32⟩
  | 21 => ⟨S2x256x256, .f32⟩
  | 22 => ⟨S2048x2048, .bf16⟩
  | 23 => ⟨S2048x2048, .bf16⟩
  | 24 => ⟨S256x256, .bf16⟩
  | 25 => ⟨S256x256, .bf16⟩
  | 26 => ⟨S2x256x256, .bf16⟩
  | 27 => ⟨S32768x512, .bf16⟩
  | 28 => ⟨S1024x1024, .bf16⟩
  | 29 => ⟨S1x1024, .f32⟩
  | 30 => ⟨S1024x4096, .bf16⟩
  | 31 => ⟨S4096x1024, .bf16⟩
  | 32 => ⟨S1x1024, .f32⟩
  | 33 => ⟨S32768x1024, .f32⟩
  | 34 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1280, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S256x256, .bf16⟩
  | .local _ .vmem, ⟨11, _⟩ => ⟨S128x128, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S256x256, .bf16⟩
  | .local _ .vmem, ⟨21, _⟩ => ⟨S256x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S256x256, .bf16⟩
  | .local _ .vmem, ⟨27, _⟩ => ⟨S256x256, .bf16⟩
  | .local _ .vmem, ⟨28, _⟩ => ⟨S2048x512, .bf16⟩
  | .local _ .vmem, ⟨29, _⟩ => ⟨S2048x512, .bf16⟩
  | .local _ .vmem, ⟨30, _⟩ => ⟨S2048x2048, .bf16⟩
  | .local _ .vmem, ⟨31, _⟩ => ⟨S2048x2048, .bf16⟩
  | .local _ .vmem, ⟨32, _⟩ => ⟨S256x256, .bf16⟩
  | .local _ .vmem, ⟨33, _⟩ => ⟨S256x256, .bf16⟩
  | .local _ .vmem, ⟨34, _⟩ => ⟨S2x256x256, .bf16⟩
  | .local _ .vmem, ⟨35, _⟩ => ⟨S2048x512, .bf16⟩
  | .local _ .vmem, ⟨36, _⟩ => ⟨S2048x512, .bf16⟩
  | .local _ .vmem, ⟨37, _⟩ => ⟨S512x1024, .f32⟩
  | .local _ .vmem, ⟨38, _⟩ => ⟨S512x1024, .f32⟩
  | .local _ .vmem, ⟨39, _⟩ => ⟨S512x512, .bf16⟩
  | .local _ .vmem, ⟨40, _⟩ => ⟨S512x512, .bf16⟩
  | .local _ .vmem, ⟨41, _⟩ => ⟨S512x512, .bf16⟩
  | .local _ .vmem, ⟨42, _⟩ => ⟨S512x512, .bf16⟩
  | .local _ .vmem, ⟨43, _⟩ => ⟨S1024x1024, .bf16⟩
  | .local _ .vmem, ⟨44, _⟩ => ⟨S1x1024, .f32⟩
  | .local _ .vmem, ⟨45, _⟩ => ⟨S1024x4096, .bf16⟩
  | .local _ .vmem, ⟨46, _⟩ => ⟨S4096x1024, .bf16⟩
  | .local _ .vmem, ⟨47, _⟩ => ⟨S1x1024, .f32⟩
  | .local _ .vmem, ⟨48, _⟩ => ⟨S512x1024, .f32⟩
  | .local _ .vmem, ⟨49, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_6 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_8 : Ref sig .tc := ⟨.hbm, 98, rfl⟩
abbrev main_v74 : Ref sig .tc := ⟨.hbm, 99, rfl⟩
abbrev main_v75 : Ref sig .tc := ⟨.hbm, 100, rfl⟩
abbrev main_c_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_13 : Ref sig .tc := ⟨.hbm, 117, rfl⟩
abbrev main_v88 : Ref sig .tc := ⟨.hbm, 118, rfl⟩
abbrev main_v89 : Ref sig .tc := ⟨.hbm, 119, rfl⟩
abbrev main_c_14 : Ref sig .tc := ⟨.hbm, 120, rfl⟩
abbrev main_v90 : Ref sig .tc := ⟨.hbm, 121, rfl⟩
abbrev main_v91 : Ref sig .tc := ⟨.hbm, 122, rfl⟩
abbrev main_c_15 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_call0_v0 : Ref sig .tc := ⟨.hbm, 129, rfl⟩
abbrev main_call0_v1 : Ref sig .tc := ⟨.hbm, 130, rfl⟩
abbrev main_v96 : Ref sig .tc := ⟨.hbm, 131, rfl⟩
abbrev main_cst_17 : Ref sig .tc := ⟨.hbm, 132, rfl⟩
abbrev main_call1_v0 : Ref sig .tc := ⟨.hbm, 133, rfl⟩
abbrev main_call1_v1 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_18 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg8_0 : Ref sig .tc := ⟨.vmem, 48, rfl⟩
abbrev cc3_stg8_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem8_1 : DmaSem sig := 49

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨3, ![16, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2x256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x4096 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4096x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== LayerRefIdeal.lean ====
abbrev S16x2048x1024 : Shape := ⟨3, ![16, 2048, 1024]⟩
abbrev S1024 : Shape := ⟨1, ![1024]⟩
abbrev S1024x1280 : Shape := ⟨2, ![1024, 1280]⟩
abbrev S64 : Shape := ⟨1, ![64]⟩
abbrev S8x64x64 : Shape := ⟨3, ![8, 64, 64]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1280 : Shape := ⟨3, ![16, 2048, 1280]⟩
abbrev S16x2048x512 : Shape := ⟨3, ![16, 2048, 512]⟩
abbrev S16x2048x128 : Shape := ⟨3, ![16, 2048, 128]⟩
abbrev S16x2048x8x64 : Shape := ⟨4, ![16, 2048, 8, 64]⟩
abbrev S16x2048x2x64 : Shape := ⟨4, ![16, 2048, 2, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x8x2048x64 : Shape := ⟨4, ![16, 8, 2048, 64]⟩
abbrev S16x2048x2 : Shape := ⟨3, ![16, 2048, 2]⟩
abbrev S16x2048x2x1 : Shape := ⟨4, ![16, 2048, 2, 1]⟩
abbrev S16x2x2048x64 : Shape := ⟨4, ![16, 2, 2048, 64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x8x2048x32 : Shape := ⟨4, ![16, 8, 2048, 32]⟩
abbrev S16x8x2048x16 : Shape := ⟨4, ![16, 8, 2048, 16]⟩
abbrev S1x1x2048x16 : Shape := ⟨4, ![1, 1, 2048, 16]⟩
abbrev S16x2x2048x32 : Shape := ⟨4, ![16, 2, 2048, 32]⟩
abbrev S16x2x2048x16 : Shape := ⟨4, ![16, 2, 2048, 16]⟩
abbrev S16x2x4x2048x64 : Shape := ⟨5, ![16, 2, 4, 2048, 64]⟩
abbrev S16x2x4x2048x2048 : Shape := ⟨5, ![16, 2, 4, 2048, 2048]⟩
abbrev S16x2x4x2048 : Shape := ⟨4, ![16, 2, 4, 2048]⟩
abbrev S16x2x4x2048x1 : Shape := ⟨5, ![16, 2, 4, 2048, 1]⟩
abbrev S16x2048x2x4x64 : Shape := ⟨5, ![16, 2048, 2, 4, 64]⟩
abbrev S2048x2048 : Shape := ⟨2, ![2048, 2048]⟩
abbrev S64x64 : Shape := ⟨2, ![64, 64]⟩
abbrev S16x8x64x2048 : Shape := ⟨4, ![16, 8, 64, 2048]⟩
abbrev S8x64x16x2048 : Shape := ⟨4, ![8, 64, 16, 2048]⟩
abbrev S16x2048x4096 : Shape := ⟨3, ![16, 2048, 4096]⟩

abbrev nBuf : Space → Nat
  | .hbm => 287
  | .vmem => 0
  | .smem => 0
  | _ => 0

abbrev hbmTy0_0 (i : Nat) : BufTy := match i % 128 with
  | 0 => ⟨S16x2048x1024, .f32⟩
  | 1 => ⟨S1024, .f32⟩
  | 2 => ⟨S1024x1280, .f32⟩
  | 3 => ⟨S64, .f32⟩
  | 4 => ⟨S64, .f32⟩
  | 5 => ⟨S8x64x64, .f32⟩
  | 6 => ⟨S1024x1024, .f32⟩
  | 7 => ⟨S1024, .f32⟩
  | 8 => ⟨S1024x4096, .f32⟩
  | 9 => ⟨S4096x1024, .f32⟩
  | 10 => ⟨S1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x1280, .f32⟩
  | 28 => ⟨S16x2048x512, .f32⟩
  | 29 => ⟨S16x2048x128, .f32⟩
  | 30 => ⟨S16x2048x128, .f32⟩
  | 31 => ⟨S16x2048x512, .f32⟩
  | 32 => ⟨S16x2048x8x64, .f32⟩
  | 33 => ⟨S16x2048x2x64, .f32⟩
  | 34 => ⟨S16x2048x2x64, .f32⟩
  | 35 => ⟨S16x2048x8x64, .f32⟩
  | 36 => ⟨S_, .f32⟩
  | 37 => ⟨S16x2048x8, .f32⟩
  | 38 => ⟨S16x2048x8x1, .f32⟩
  | 39 => ⟨S_, .f32⟩
  | 40 => ⟨S16x2048x8x1, .f32⟩
  | 41 => ⟨S16x2048x8x1, .f32⟩
  | 42 => ⟨S_, .f32⟩
  | 43 => ⟨S16x2048x8x1, .f32⟩
  | 44 => ⟨S16x2048x8x1, .f32⟩
  | 45 => ⟨S16x2048x8x1, .f32⟩
  | 46 => ⟨S16x2048x8x64, .f32⟩
  | 47 => ⟨S16x2048x8x64, .f32⟩
  | 48 => ⟨S1x1x1x64, .f32⟩
  | 49 => ⟨S16x2048x8x64, .f32⟩
  | 50 => ⟨S16x2048x8x64, .f32⟩
  | 51 => ⟨S16x8x2048x64, .f32⟩
  | 52 => ⟨S16x2048x2x64, .f32⟩
  | 53 => ⟨S_, .f32⟩
  | 54 => ⟨S16x2048x2, .f32⟩
  | 55 => ⟨S16x2048x2x1, .f32⟩
  | 56 => ⟨S_, .f32⟩
  | 57 => ⟨S16x2048x2x1, .f32⟩
  | 58 => ⟨S16x2048x2x1, .f32⟩
  | 59 => ⟨S_, .f32⟩
  | 60 => ⟨S16x2048x2x1, .f32⟩
  | 61 => ⟨S16x2048x2x1, .f32⟩
  | 62 => ⟨S16x2048x2x1, .f32⟩
  | 63 => ⟨S16x2048x2x64, .f32⟩
  | 64 => ⟨S16x2048x2x64, .f32⟩
  | 65 => ⟨S1x1x1x64, .f32⟩
  | 66 => ⟨S16x2048x2x64, .f32⟩
  | 67 => ⟨S16x2048x2x64, .f32⟩
  | 68 => ⟨S16x2x2048x64, .f32⟩
  | 69 => ⟨S16x2x2048x64, .f32⟩
  | 70 => ⟨S32, .i32⟩
  | 71 => ⟨S32x64, .i32⟩
  | 72 => ⟨S2048, .i32⟩
  | 73 => ⟨S64, .i32⟩
  | 74 => ⟨S1x64, .i32⟩
  | 75 => ⟨S32x64, .i32⟩
  | 76 => ⟨S2048, .i32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S2048, .f32⟩
  | 92 => ⟨S2048x1, .f32⟩
  | 93 => ⟨S1x16, .f32⟩
  | 94 => ⟨S2048x16, .f32⟩
  | 95 => ⟨S2048x16, .f32⟩
  | 96 => ⟨S2048x16, .f32⟩
  | 97 => ⟨S2048, .f32⟩
  | 98 => ⟨S2048x1, .f32⟩
  | 99 => ⟨S1x16, .f32⟩
  | 100 => ⟨S2048x16, .f32⟩
  | 101 => ⟨S2048x16, .f32⟩
  | 102 => ⟨S2048x16, .f32⟩
  | 103 => ⟨S16x8x2048x32, .f32⟩
  | 104 => ⟨S2048x16, .f32⟩
  | 105 => ⟨S2048x16, .f32⟩
  | 106 => ⟨S16x8x2048x16, .f32⟩
  | 107 => ⟨S16x8x2048x16, .f32⟩
  | 108 => ⟨S1x1x2048x16, .f32⟩
  | 109 => ⟨S16x8x2048x16, .f32⟩
  | 110 => ⟨S16x8x2048x16, .f32⟩
  | 111 => ⟨S1x1x2048x16, .f32⟩
  | 112 => ⟨S16x8x2048x16, .f32⟩
  | 113 => ⟨S16x8x2048x16, .f32⟩
  | 114 => ⟨S16x8x2048x16, .f32⟩
  | 115 => ⟨S1x1x2048x16, .f32⟩
  | 116 => ⟨S16x8x2048x16, .f32⟩
  | 117 => ⟨S16x8x2048x16, .f32⟩
  | 118 => ⟨S1x1x2048x16, .f32⟩
  | 119 => ⟨S16x8x2048x16, .f32⟩
  | 120 => ⟨S16x8x2048x16, .f32⟩
  | 121 => ⟨S16x8x2048x16, .f32⟩
  | 122 => ⟨S16x8x2048x32, .f32⟩
  | 123 => ⟨S16x8x2048x32, .f32⟩
  | 124 => ⟨S2048x16, .f32⟩
  | 125 => ⟨S2048x16, .f32⟩
  | 126 => ⟨S16x8x2048x16, .f32⟩
  | 127 => ⟨S16x8x2048x16, .f32⟩
  | _ => ⟨S16x2048x1024, .f32⟩

abbrev hbmTy0_1 (i : Nat) : BufTy := match i % 128 with
  | 0 => ⟨S1x1x2048x16, .f32⟩
  | 1 => ⟨S16x8x2048x16, .f32⟩
  | 2 => ⟨S16x8x2048x16, .f32⟩
  | 3 => ⟨S1x1x2048x16, .f32⟩
  | 4 => ⟨S16x8x2048x16, .f32⟩
  | 5 => ⟨S16x8x2048x16, .f32⟩
  | 6 => ⟨S16x8x2048x16, .f32⟩
  | 7 => ⟨S1x1x2048x16, .f32⟩
  | 8 => ⟨S16x8x2048x16, .f32⟩
  | 9 => ⟨S16x8x2048x16, .f32⟩
  | 10 => ⟨S1x1x2048x16, .f32⟩
  | 11 => ⟨S16x8x2048x16, .f32⟩
  | 12 => ⟨S16x8x2048x16, .f32⟩
  | 13 => ⟨S16x8x2048x16, .f32⟩
  | 14 => ⟨S16x8x2048x32, .f32⟩
  | 15 => ⟨S16x8x2048x64, .f32⟩
  | 16 => ⟨S16x2x2048x32, .f32⟩
  | 17 => ⟨S2048x16, .f32⟩
  | 18 => ⟨S2048x16, .f32⟩
  | 19 => ⟨S16x2x2048x16, .f32⟩
  | 20 => ⟨S16x2x2048x16, .f32⟩
  | 21 => ⟨S1x1x2048x16, .f32⟩
  | 22 => ⟨S16x2x2048x16, .f32⟩
  | 23 => ⟨S16x2x2048x16, .f32⟩
  | 24 => ⟨S1x1x2048x16, .f32⟩
  | 25 => ⟨S16x2x2048x16, .f32⟩
  | 26 => ⟨S16x2x2048x16, .f32⟩
  | 27 => ⟨S16x2x2048x16, .f32⟩
  | 28 => ⟨S1x1x2048x16, .f32⟩
  | 29 => ⟨S16x2x2048x16, .f32⟩
  | 30 => ⟨S16x2x2048x16, .f32⟩
  | 31 => ⟨S1x1x2048x16, .f32⟩
  | 32 => ⟨S16x2x2048x16, .f32⟩
  | 33 => ⟨S16x2x2048x16, .f32⟩
  | 34 => ⟨S16x2x2048x16, .f32⟩
  | 35 => ⟨S16x2x2048x32, .f32⟩
  | 36 => ⟨S16x2x2048x32, .f32⟩
  | 37 => ⟨S2048x16, .f32⟩
  | 38 => ⟨S2048x16, .f32⟩
  | 39 => ⟨S16x2x2048x16, .f32⟩
  | 40 => ⟨S16x2x2048x16, .f32⟩
  | 41 => ⟨S1x1x2048x16, .f32⟩
  | 42 => ⟨S16x2x2048x16, .f32⟩
  | 43 => ⟨S16x2x2048x16, .f32⟩
  | 44 => ⟨S1x1x2048x16, .f32⟩
  | 45 => ⟨S16x2x2048x16, .f32⟩
  | 46 => ⟨S16x2x2048x16, .f32⟩
  | 47 => ⟨S16x2x2048x16, .f32⟩
  | 48 => ⟨S1x1x2048x16, .f32⟩
  | 49 => ⟨S16x2x2048x16, .f32⟩
  | 50 => ⟨S16x2x2048x16, .f32⟩
  | 51 => ⟨S1x1x2048x16, .f32⟩
  | 52 => ⟨S16x2x2048x16, .f32⟩
  | 53 => ⟨S16x2x2048x16, .f32⟩
  | 54 => ⟨S16x2x2048x16, .f32⟩
  | 55 => ⟨S16x2x2048x32, .f32⟩
  | 56 => ⟨S16x2x2048x64, .f32⟩
  | 57 => ⟨S_, .f32⟩
  | 58 => ⟨S16x8x2048x64, .f32⟩
  | 59 => ⟨S16x8x2048x64, .f32⟩
  | 60 => ⟨S16x2x4x2048x64, .f32⟩
  | 61 => ⟨S16x2x4x2048x2048, .f32⟩
  | 62 => ⟨S_, .f32⟩
  | 63 => ⟨S16x2x4x2048, .f32⟩
  | 64 => ⟨S_, .f32⟩
  | 65 => ⟨S16x2x4x2048, .f32⟩
  | 66 => ⟨S16x2x4x2048, .f32⟩
  | 67 => ⟨S16x2x4x2048x1, .f32⟩
  | 68 => ⟨S16x2x4x2048x2048, .f32⟩
  | 69 => ⟨S16x2x4x2048x2048, .f32⟩
  | 70 => ⟨S16x2x4x2048x2048, .f32⟩
  | 71 => ⟨S_, .f32⟩
  | 72 => ⟨S16x2x4x2048, .f32⟩
  | 73 => ⟨S16x2x4x2048x1, .f32⟩
  | 74 => ⟨S16x2x4x2048x2048, .f32⟩
  | 75 => ⟨S16x2x4x2048x2048, .f32⟩
  | 76 => ⟨S16x2x4x2048x64, .f32⟩
  | 77 => ⟨S16x2048x2x4x64, .f32⟩
  | 78 => ⟨S16x2048x512, .f32⟩
  | 79 => ⟨S16x2048x8x64, .f32⟩
  | 80 => ⟨S2048x2048, .i32⟩
  | 81 => ⟨S2048x2048, .i32⟩
  | 82 => ⟨S2048x2048, .i32⟩
  | 83 => ⟨S_, .i32⟩
  | 84 => ⟨S2048x2048, .i32⟩
  | 85 => ⟨S2048x2048, .i32⟩
  | 86 => ⟨S2048x2048, .f32⟩
  | 87 => ⟨S_, .f32⟩
  | 88 => ⟨S2048x2048, .f32⟩
  | 89 => ⟨S2048x2048, .f32⟩
  | 90 => ⟨S64x64, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S64x64, .f32⟩
  | 97 => ⟨S_, .f32⟩
  | 98 => ⟨S64x64, .f32⟩
  | 99 => ⟨S64x64, .f32⟩
  | 100 => ⟨S2048x2048, .f32⟩
  | 101 => ⟨S16x8x64x2048, .f32⟩
  | 102 => ⟨S16x2048x8x64, .f32⟩
  | 103 => ⟨S2048x2048, .f32⟩
  | 104 => ⟨S16x8x64x2048, .f32⟩
  | 105 => ⟨S16x2048x8x64, .f32⟩
  | 106 => ⟨S64x64, .f32⟩
  | 107 => ⟨S16x2048x8x64, .f32⟩
  | 108 => ⟨S64x64, .f32⟩
  | 109 => ⟨S16x2048x8x64, .f32⟩
  | 110 => ⟨S16x2048x8x64, .f32⟩
  | 111 => ⟨S_, .f32⟩
  | 112 => ⟨S16x2048x8x64, .f32⟩
  | 113 => ⟨S16x2048x8x64, .f32⟩
  | 114 => ⟨S8x64x16x2048, .f32⟩
  | 115 => ⟨S16x2048x8x64, .f32⟩
  | 116 => ⟨S16x2048x512, .f32⟩
  | 117 => ⟨S16x2048x1024, .f32⟩
  | 118 => ⟨S16x2048x1024, .f32⟩
  | 119 => ⟨S16x2048x1024, .f32⟩
  | 120 => ⟨S16x2048x1024, .f32⟩
  | 121 => ⟨S_, .f32⟩
  | 122 => ⟨S16x2048, .f32⟩
  | 123 => ⟨S16x2048x1, .f32⟩
  | 124 => ⟨S_, .f32⟩
  | 125 => ⟨S16x2048x1, .f32⟩
  | 126 => ⟨S16x2048x1, .f32⟩
  | 127 => ⟨S_, .f32⟩
  | _ => ⟨S16x2048x1024, .f32⟩

abbrev hbmTy0_2 (i : Nat) : BufTy := match i % 128 with
  | 0 => ⟨S16x2048x1, .f32⟩
  | 1 => ⟨S16x2048x1, .f32⟩
  | 2 => ⟨S16x2048x1, .f32⟩
  | 3 => ⟨S16x2048x1024, .f32⟩
  | 4 => ⟨S16x2048x1024, .f32⟩
  | 5 => ⟨S1x1x1024, .f32⟩
  | 6 => ⟨S16x2048x1024, .f32⟩
  | 7 => ⟨S16x2048x1024, .f32⟩
  | 8 => ⟨S16x2048x4096, .f32⟩
  | 9 => ⟨S_, .f32⟩
  | 10 => ⟨S16x2048x4096, .f32⟩
  | 11 => ⟨S16x2048x4096, .f32⟩
  | 12 => ⟨S16x2048x4096, .f32⟩
  | 13 => ⟨S16x2048x1024, .f32⟩
  | 14 => ⟨S16x2048x1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_12 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_cst_13 : Ref sig .tc := ⟨.hbm, 190, rfl⟩
abbrev main_v165 : Ref sig .tc := ⟨.hbm, 191, rfl⟩
abbrev main_cst_14 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_cst_15 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_c : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_cst_16 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_c_17 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_cst_18 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_cst_19 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_cst_20 : Ref sig .tc := ⟨.hbm, 249, rfl⟩
abbrev main_v216 : Ref sig .tc := ⟨.hbm, 250, rfl⟩
abbrev main_v217 : Ref sig .tc := ⟨.hbm, 251, rfl⟩
abbrev main_cst_21 : Ref sig .tc := ⟨.hbm, 252, rfl⟩
abbrev main_v218 : Ref sig .tc := ⟨.hbm, 253, rfl⟩
abbrev main_v219 : Ref sig .tc := ⟨.hbm, 254, rfl⟩
abbrev main_cst_22 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_call0_cst : Ref sig .tc := ⟨.hbm, 265, rfl⟩
abbrev main_call0_v0 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_cst_23 : Ref sig .tc := ⟨.hbm, 272, rfl⟩
abbrev main_v234 : Ref sig .tc := ⟨.hbm, 273, rfl⟩
abbrev main_v235 : Ref sig .tc := ⟨.hbm, 274, rfl⟩
abbrev main_cst_24 : Ref sig .tc := ⟨.hbm, 275, rfl⟩
abbrev main_v236 : Ref sig .tc := ⟨.hbm, 276, rfl⟩
abbrev main_v237 : Ref sig .tc := ⟨.hbm, 277, rfl⟩
abbrev main_cst_25 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩

abbrev nD : Nat := 1
abbrev τ : Topo := Topo.v7x

variable {F : FTy → Type} [FloatOps F]
-- ==== Proof.MlpRows.lean ====
/- What the output projection, the feed-forward part and the last normalisation compute on one row of 1024 extended
   reals: plain functions of the row, of the two halves the projection mixes and of the weights. -/
module

public import Idealize.ShloMosaic.Lib.Pointwise

@[expose] public section

noncomputable section

namespace Cert.MlpRows

open Idealize.ShloMosaic

/-- Row normalisation: the entry, times the inverse root of (mean of squares + 1e-6), times the weight. -/
def rms (y g : Fin 1024 → EReal) (n : Fin 1024) : EReal :=
  y n * Ideal.rsqrt (Ideal.div (∑ k, y k * y k) (Ideal.ofBits .f32 0x44800000#32) + Ideal.ofBits .f32 0x358637BD#32)
    * g n

/-- The residual row: `x` plus the projection of `a` followed by `b` (512 entries each) through the 1024 rows of `w`. -/
def resid (x : Fin 1024 → EReal) (a b : Fin 512 → EReal) (w : Fin 1024 → Fin 1024 → EReal) (n : Fin 1024) : EReal :=
  x n + (∑ k : Fin 512, a k * w ⟨k.val, by have := k.isLt; omega⟩ n
    + ∑ k : Fin 512, b k * w ⟨512 + k.val, by have := k.isLt; omega⟩ n)

/-- One hidden unit: the square of the positive part of `h` against column `j` of `wu`. -/
def unitOut (h : Fin 1024 → EReal) (wu : Fin 1024 → Fin 4096 → EReal) (j : Fin 4096) : EReal :=
  max (∑ k, h k * wu k j) 0 * max (∑ k, h k * wu k j) 0

/-- The feed-forward row: all 4096 hidden units through `wd`. -/
def ff (h : Fin 1024 → EReal) (wu : Fin 1024 → Fin 4096 → EReal) (wd : Fin 4096 → Fin 1024 → EReal) (n : Fin 1024) :
    EReal :=
  ∑ j : Fin 4096, unitOut h wu j * wd j n

/-- The whole row: residual, feed-forward of the normalised residual added to it, last normalisation. -/
def row (x : Fin 1024 → EReal) (a b : Fin 512 → EReal) (w : Fin 1024 → Fin 1024 → EReal) (g : Fin 1024 → EReal)
    (wu : Fin 1024 → Fin 4096 → EReal) (wd : Fin 4096 → Fin 1024 → EReal) (gf : Fin 1024 → EReal) (n : Fin 1024) : EReal :=
  rms (fun i => resid x a b w i + ff (rms (resid x a b w) g) wu wd i) gf n

/-- Hidden unit `c` of slice `s`, of four slices of 1024. -/
abbrev unit (s : Fin 4) (c : Fin 1024) : Fin 4096 := ⟨s.val * 1024 + c.val, by have := s.isLt; have := c.isLt; omega⟩

/-- The feed-forward sum taken over four slices of 1024 hidden units, the slices' sums added in pairs. -/
theorem ff_slices (h : Fin 1024 → EReal) (wu : Fin 1024 → Fin 4096 → EReal) (wd : Fin 4096 → Fin 1024 → EReal)
    (n : Fin 1024) :
    ff h wu wd n = (∑ c, unitOut h wu (unit 0 c) * wd (unit 0 c) n + ∑ c, unitOut h wu (unit 1 c) * wd (unit 1 c) n)
      + (∑ c, unitOut h wu (unit 2 c) * wd (unit 2 c) n + ∑ c, unitOut h wu (unit 3 c) * wd (unit 3 c) n) := by
  unfold ff
  rw [Fin.sum_univ_tiles 4 1024 rfl, Fin.sum_univ_four, add_assoc, add_assoc]

end Cert.MlpRows

end
-- ==== Proof.Reals.lean ====
/- Extended reals that are real numbers: closed under the operations of the layer, and the three equations that hold for
   them and not for the infinities: a mean taken by weights, a softmax divided after the product, and the re-ordered sums
   of the transform. -/
module

public import proofs.«01_k».proof.Proof.MlpRows
public import Idealize.ShloMosaic.Lib.Pointwise
public import Idealize.ShloMosaic.Lib.IdealHost

@[expose] public section

noncomputable section

namespace Cert.Reals

open Idealize.ShloMosaic

/-- Neither infinity. -/
def IsReal (x : EReal) : Prop := ∃ r : ℝ, x = (r : EReal)

theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.neg {x : EReal} : IsReal x → IsReal (-x) := by
  rintro ⟨a, rfl⟩; exact ⟨-a, (EReal.coe_neg a).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} {s : Finset ι} {f : ι → EReal} (h : ∀ i, IsReal (f i)) : IsReal (∑ i ∈ s, f i) := by
  choose g hg using h
  simp only [hg, sum_coe]
  exact .coe _
theorem IsReal.cos {x : EReal} : IsReal x → IsReal (Ideal.cos x) := by
  rintro ⟨a, rfl⟩; exact ⟨Real.cos a, rfl⟩
theorem IsReal.sin {x : EReal} : IsReal x → IsReal (Ideal.sin x) := by
  rintro ⟨a, rfl⟩; exact ⟨Real.sin a, rfl⟩

/-- The absolute value is below the infinity only for a real number. -/
theorem IsReal.of_abs {x : EReal} (h : max x (-x) < ⊤) : IsReal x := by
  induction x with
  | bot => simp at h
  | top => simp at h
  | coe r => exact .coe r

/-! ## The constants that are written as words -/

theorem w1024 : Ideal.ofBits .f32 0x44800000#32 = ((1024 : ℝ) : EReal) := by
  simp [Ideal.ofBits, Ideal.ieee]; rw [← EReal.coe_mul]; norm_num
theorem w64 : Ideal.ofBits .f32 0x42800000#32 = ((64 : ℝ) : EReal) := by
  simp [Ideal.ofBits, Ideal.ieee]; rw [← EReal.coe_mul]; norm_num
theorem w64th : Ideal.ofBits .f32 0x3C800000#32 = ((1 / 64 : ℝ) : EReal) := by
  simp [Ideal.ofBits, Ideal.ieee]; rw [← EReal.coe_mul]; norm_num
theorem w8th : Ideal.ofBits .f32 0x3E000000#32 = ((1 / 8 : ℝ) : EReal) := by
  simp [Ideal.ofBits, Ideal.ieee]; rw [← EReal.coe_mul]; norm_num
theorem wEps : ∃ e : ℝ, 0 < e ∧ Ideal.ofBits .f32 0x358637BD#32 = (e : EReal) := by
  refine ⟨_, ?_, by simp [Ideal.ofBits, Ideal.ieee]; rfl⟩
  positivity

/-! ## Normalisation -/

/-- The inverse root of a mean of squares plus the small constant is real. -/
theorem rsqrt_real {n : ℕ} {p : Fin n → EReal} (hp : ∀ i, IsReal (p i)) {c : ℝ} (hc : 0 < c) :
    IsReal (Ideal.rsqrt (Ideal.div (∑ k, p k * p k) (c : EReal) + Ideal.ofBits .f32 0x358637BD#32)) := by
  obtain ⟨e, he, hE⟩ := wEps
  choose q hq using hp
  rw [hE, Ideal.div_coe hc.ne']
  simp only [hq, ← EReal.coe_mul, sum_coe, ← EReal.coe_add]
  have h : 0 < (∑ i, q i * q i) * (1 / c) + e :=
    add_pos_of_nonneg_of_pos (mul_nonneg (Finset.sum_nonneg fun i _ => mul_self_nonneg _) (by positivity)) he
  generalize (∑ i, q i * q i) * (1 / c) + e = z at h ⊢
  refine ⟨(Real.sqrt z)⁻¹, ?_⟩
  rw [show Ideal.rsqrt (z : EReal) = if z < 0 then (⊥ : EReal) else if z = 0 then ⊤ else (((Real.sqrt z)⁻¹ : ℝ) : EReal) from rfl,
    if_neg (not_lt.mpr h.le), if_neg h.ne']

theorem square_nonneg (x : EReal) : 0 ≤ x * x := by
  induction x with
  | bot => simp
  | top => simp
  | coe r => rw [← EReal.coe_mul]; exact_mod_cast mul_self_nonneg r

theorem square_top {x : EReal} (h : ¬ IsReal x) : x * x = ⊤ := by
  induction x with
  | bot => simp
  | top => simp
  | coe r => exact absurd (.coe r) h

/-- With an infinite entry the inverse root is zero. -/
theorem rsqrt_zero {n : ℕ} {p : Fin n → EReal} {i : Fin n} (hi : ¬ IsReal (p i)) {c : ℝ} (hc : 0 < c) :
    Ideal.rsqrt (Ideal.div (∑ k, p k * p k) (c : EReal) + Ideal.ofBits .f32 0x358637BD#32) = 0 := by
  obtain ⟨e, he, hE⟩ := wEps
  have h : ∑ k, p k * p k = ⊤ := top_le_iff.mp ((square_top hi).symm.le.trans
    (Finset.single_le_sum (f := fun k => p k * p k) (fun k _ => square_nonneg (p k)) (Finset.mem_univ i)))
  rw [h, hE, Ideal.div_coe hc.ne', EReal.top_mul_coe_of_pos (by positivity), EReal.top_add_coe]
  rfl

/-- A normalised entry is real whatever the entries are: an infinite one turns all of them to zero. -/
theorem rms_real {y g : Fin 1024 → EReal} (hg : ∀ i, IsReal (g i)) (n : Fin 1024) : IsReal (MlpRows.rms y g n) := by
  unfold MlpRows.rms
  rw [w1024]
  by_cases hy : ∀ i, IsReal (y i)
  · exact ((hy n).mul (rsqrt_real hy (by norm_num))).mul (hg n)
  · obtain ⟨i, hi⟩ := not_forall.mp hy
    rw [rsqrt_zero hi (by norm_num), mul_zero, zero_mul]
    exact .coe 0

/-- A sum of squares with the weight 1/64 on each is the sum divided by 64. -/
theorem mean_weights {p : Fin 64 → EReal} (hp : ∀ i, IsReal (p i)) :
    ∑ k, p k * p k * Ideal.ofBits .f32 0x3C800000#32 = Ideal.div (∑ k, p k * p k) (Ideal.ofBits .f32 0x42800000#32) := by
  choose q hq using hp
  rw [w64, w64th, Ideal.div_coe (by norm_num)]
  simp only [hq, ← EReal.coe_mul, sum_coe, Finset.sum_mul]

/-! ## Softmax -/

/-- The greatest of finitely many real numbers, at least one, is real. -/
theorem fold_max_real {n : ℕ} [NeZero n] {s : Fin n → EReal} (hs : ∀ x, IsReal (s x)) :
    IsReal (Finset.univ.fold max ⊥ s) := by
  have hlow : s 0 ≤ Finset.univ.fold max ⊥ s := (Finset.le_fold_max _).mpr (.inr ⟨0, Finset.mem_univ _, le_rfl⟩)
  have key : Finset.univ.fold max ⊥ s = ⊥ ∨ ∃ x, Finset.univ.fold max ⊥ s = s x := by
    classical
    generalize (Finset.univ : Finset (Fin n)) = S
    induction S using Finset.induction_on with
    | empty => exact .inl (by simp)
    | insert a S h ih =>
      rw [Finset.fold_insert h]
      rcases max_choice (s a) (S.fold max ⊥ s) with h1 | h1 <;> rw [h1]
      · exact .inr ⟨a, rfl⟩
      · exact ih
  rcases key with h | ⟨x, h⟩
  · rw [h] at hlow
    obtain ⟨r, hr⟩ := hs 0
    rw [hr] at hlow
    exact absurd hlow (by simp)
  · rw [h]; exact hs x

theorem sum_mul_of_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (by exact_mod_cast hc) (EReal.coe_ne_top c) _ _

/-- Softmax weights applied to `v`: dividing the weighted sum by the total is weighting by the quotients. -/
theorem softmax {n : ℕ} [NeZero n] {s : Fin n → EReal} (hs : ∀ x, IsReal (s x)) (v : Fin n → EReal) {M : EReal}
    (hM : IsReal M) :
    Ideal.div (∑ x, Ideal.exp (s x - M) * v x) (∑ x, Ideal.exp (s x - M))
      = ∑ x, Ideal.div (Ideal.exp (s x - M)) (∑ y, Ideal.exp (s y - M)) * v x := by
  obtain ⟨b, rfl⟩ := hM
  choose t ht using hs
  have e : ∀ x, Ideal.exp (s x - (b : EReal)) = ((Real.exp (t x - b) : ℝ) : EReal) := fun x => by
    rw [ht, ← EReal.coe_sub]; rfl
  simp only [e, sum_coe]
  have hpos : 0 < ∑ x, Real.exp (t x - b) := Finset.sum_pos (fun x _ => Real.exp_pos _) ⟨0, Finset.mem_univ _⟩
  rw [Ideal.div_coe hpos.ne', sum_mul_of_nonneg _ _ (by positivity)]
  refine Finset.sum_congr rfl fun x _ => ?_
  rw [Ideal.div_coe hpos.ne', mul_assoc, mul_assoc, mul_comm (v x)]

/-! ## The transform -/

theorem reorder (S C : ℕ) (A : Fin S → ℝ) (u : Fin S → Fin C → ℝ) (B : Fin C → Fin C → ℝ) (w : Fin C → ℝ) (α β : ℝ) :
    ∑ t, A t * α * ∑ c', u t c' * ∑ c, B c' c * β * w c
      = ∑ c, w c * ((∑ c', (∑ t, u t c' * A t) * B c' c) * (α * β)) := by
  simp only [Finset.mul_sum, Finset.sum_mul]
  rw [Finset.sum_comm]
  rw [Finset.sum_comm (s := (Finset.univ : Finset (Fin C))) (t := (Finset.univ : Finset (Fin C)))
    (f := fun c c' => ∑ t, w c * (u t c' * A t * B c' c * (α * β)))]
  refine Finset.sum_congr rfl fun c' _ => ?_
  rw [Finset.sum_comm]
  refine Finset.sum_congr rfl fun c _ => Finset.sum_congr rfl fun t _ => ?_
  ring

/-- The two-dimensional transform of one group followed by the group's map: mapping the channels first and the positions
    last is the transform, scaled, through the map. -/
theorem transform {S C : ℕ} {A1 A2 : Fin S → EReal} {u : Fin S → Fin C → EReal} {B1 B2 : Fin C → Fin C → EReal}
    {w : Fin C → EReal} {α β κ : EReal} (hA1 : ∀ t, IsReal (A1 t)) (hA2 : ∀ t, IsReal (A2 t))
    (hu : ∀ t c, IsReal (u t c)) (hB1 : ∀ a b, IsReal (B1 a b)) (hB2 : ∀ a b, IsReal (B2 a b))
    (hw : ∀ c, IsReal (w c)) (hα : IsReal α) (hβ : IsReal β) (hκ : κ = α * β) :
    (∑ t, A1 t * α * ∑ c', u t c' * ∑ c, B1 c' c * β * w c)
        + ∑ t, -(A2 t * α) * ∑ c', u t c' * ∑ c, B2 c' c * β * w c
      = ∑ c, w c * (((∑ c', (∑ t, u t c' * A1 t) * B1 c' c) - ∑ c', (∑ t, u t c' * A2 t) * B2 c' c) * κ) := by
  subst hκ
  choose a1 h1 using hA1
  choose a2 h2 using hA2
  choose v hv using hu
  choose b1 h3 using hB1
  choose b2 h4 using hB2
  choose z hz using hw
  obtain ⟨p, rfl⟩ := hα
  obtain ⟨q, rfl⟩ := hβ
  simp only [h1, h2, hv, h3, h4, hz, ← EReal.coe_mul, ← EReal.coe_neg, sum_coe, ← EReal.coe_add, ← EReal.coe_sub,
    EReal.coe_eq_coe_iff]
  have e : ∀ t, -(a2 t * p) = (fun t => -a2 t) t * p := fun t => (neg_mul _ _).symm
  simp only [e]
  rw [reorder S C a1 v b1 z p q, reorder S C (fun t => -a2 t) v b2 z p q, ← Finset.sum_add_distrib]
  refine Finset.sum_congr rfl fun c _ => ?_
  simp only [mul_neg, Finset.sum_neg_distrib, neg_mul]
  ring

end Cert.Reals

end
-- ==== Proof.Spec.lean ====
/- What the parts of the layer before the output projection compute on one token or one head: plain functions over the
   extended reals, each in the form the reference computes and, where that differs, in the form the kernel computes, with
   the two forms proved equal for real entries. -/
module

public import proofs.«01_k».proof.Proof.Reals

@[expose] public section

noncomputable section

namespace Cert.Spec

open Idealize.ShloMosaic Cert.Reals

/-- Entry `e` of a token's projection: the normalised token through column `e` of `w`. -/
def proj (x g : Fin 1024 → EReal) (w : Fin 1024 → Fin 1280 → EReal) (e : Fin 1280) : EReal :=
  ∑ d, MlpRows.rms x g d * w d e

theorem proj_real {x g : Fin 1024 → EReal} {w : Fin 1024 → Fin 1280 → EReal}
    (hg : ∀ i, IsReal (g i)) (hw : ∀ d e, IsReal (w d e)) (e : Fin 1280) : IsReal (proj x g w e) :=
  IsReal.sum fun d => (rms_real hg d).mul (hw d e)

/-- The inverse root of the mean of a head's 64 squares plus the small constant. -/
def inv (p : Fin 64 → EReal) : EReal :=
  Ideal.rsqrt (Ideal.div (∑ k, p k * p k) (Ideal.ofBits .f32 0x42800000#32) + Ideal.ofBits .f32 0x358637BD#32)

/-- The same with the weight 1/64 on each square. -/
def invW (p : Fin 64 → EReal) : EReal :=
  Ideal.rsqrt ((∑ k, p k * p k * Ideal.ofBits .f32 0x3C800000#32) + Ideal.ofBits .f32 0x358637BD#32)

theorem invW_eq {p : Fin 64 → EReal} (hp : ∀ i, IsReal (p i)) : invW p = inv p := by
  unfold invW inv; rw [mean_weights hp]

theorem inv_real {p : Fin 64 → EReal} (hp : ∀ i, IsReal (p i)) : IsReal (inv p) := by
  unfold inv; rw [w64]; exact rsqrt_real hp (by norm_num)

/-- Place `d` of a head is in the first half of its axis: it is rotated with place `d + 16`, else with place `d - 16`. -/
abbrev up (d : Fin 64) (h : d.val % 32 < 16) : Fin 64 := ⟨d.val + 16, by have := d.isLt; omega⟩
abbrev down (d : Fin 64) : Fin 64 := ⟨d.val - 16, by have := d.isLt; omega⟩

/-- The rotation of a head's entries `c` by the angles `a` of its places. -/
def rope (c a : Fin 64 → EReal) (d : Fin 64) : EReal :=
  if h : d.val % 32 < 16 then c d * Ideal.cos (a d) - c (up d h) * Ideal.sin (a d)
  else c (down d) * Ideal.sin (a d) + c d * Ideal.cos (a d)

theorem rope_real {c a : Fin 64 → EReal} (hc : ∀ d, IsReal (c d)) (ha : ∀ d, IsReal (a d)) (d : Fin 64) :
    IsReal (rope c a d) := by
  unfold rope
  split
  · exact ((hc _).mul (ha _).cos).sub ((hc _).mul (ha _).sin)
  · exact ((hc _).mul (ha _).sin).add ((hc _).mul (ha _).cos)

/-- A real factor goes through the rotation. -/
theorem rope_scale {c a : Fin 64 → EReal} (hc : ∀ d, IsReal (c d)) (ha : ∀ d, IsReal (a d)) {s : EReal} (hs : IsReal s)
    (d : Fin 64) : rope (fun i => c i * s) a d = rope c a d * s := by
  obtain ⟨r, rfl⟩ := hs
  choose c' hc' using hc
  choose a' ha' using ha
  have ec : ∀ d, Ideal.cos (a d) = ((Real.cos (a' d) : ℝ) : EReal) := fun d => by rw [ha']; rfl
  have es : ∀ d, Ideal.sin (a d) = ((Real.sin (a' d) : ℝ) : EReal) := fun d => by rw [ha']; rfl
  unfold rope
  split <;>
  · simp only [hc', ec, es, ← EReal.coe_mul, ← EReal.coe_sub, ← EReal.coe_add, EReal.coe_eq_coe_iff]
    ring

/-- A key head: normalised with weight `g`, rotated. -/
def khead (p g a : Fin 64 → EReal) (d : Fin 64) : EReal := rope (fun i => p i * inv p * g i) a d

/-- A query head: the same, scaled by 1/8. -/
def qhead (p g a : Fin 64 → EReal) (d : Fin 64) : EReal := khead p g a d * Ideal.ofBits .f32 0x3E000000#32

/-- The kernel's key head: the mean taken by weights. -/
def kheadW (p g a : Fin 64 → EReal) (d : Fin 64) : EReal := rope (fun i => p i * invW p * g i) a d

/-- The kernel's query head: the scale in front of the weight and of the rotation. -/
def qheadW (p g a : Fin 64 → EReal) (d : Fin 64) : EReal :=
  rope (fun i => p i * (invW p * Ideal.ofBits .f32 0x3E000000#32) * g i) a d

variable {p g a : Fin 64 → EReal}

theorem khead_real (hp : ∀ i, IsReal (p i)) (hg : ∀ i, IsReal (g i)) (ha : ∀ i, IsReal (a i)) (d : Fin 64) :
    IsReal (khead p g a d) := rope_real (fun i => ((hp i).mul (inv_real hp)).mul (hg i)) ha d

theorem qhead_real (hp : ∀ i, IsReal (p i)) (hg : ∀ i, IsReal (g i)) (ha : ∀ i, IsReal (a i)) (d : Fin 64) :
    IsReal (qhead p g a d) := by
  unfold qhead; rw [w8th]; exact (khead_real hp hg ha d).mul (.coe _)

theorem kheadW_eq (hp : ∀ i, IsReal (p i)) (d : Fin 64) : kheadW p g a d = khead p g a d := by
  unfold kheadW khead; rw [invW_eq hp]

theorem qheadW_eq (hp : ∀ i, IsReal (p i)) (hg : ∀ i, IsReal (g i)) (ha : ∀ i, IsReal (a i)) (d : Fin 64) :
    qheadW p g a d = qhead p g a d := by
  unfold qheadW qhead khead
  rw [invW_eq hp, w8th, ← rope_scale (fun i => ((hp i).mul (inv_real hp)).mul (hg i)) ha (.coe _)]
  refine congrArg (fun f => rope f a d) (funext fun i => ?_)
  rw [← mul_assoc, mul_right_comm]

/-- The score of a query against a key. -/
def score (q k : Fin 64 → EReal) : EReal := ∑ d, q d * k d

/-- The greatest of a query's scores. -/
def top (q : Fin 64 → EReal) (k : Fin 2048 → Fin 64 → EReal) : EReal :=
  Finset.univ.fold max ⊥ fun x => score q (k x)

/-- The softmax weight of key `x` before the division. -/
def weight (q : Fin 64 → EReal) (k : Fin 2048 → Fin 64 → EReal) (x : Fin 2048) : EReal :=
  Ideal.exp (score q (k x) - top q k)

/-- One query's attention, place `d`: the values weighted by the softmax of the scores. -/
def attend (q : Fin 64 → EReal) (k v : Fin 2048 → Fin 64 → EReal) (d : Fin 64) : EReal :=
  ∑ x, Ideal.div (weight q k x) (∑ y, weight q k y) * v x d

/-- The kernel's form: the division after the sum over the keys. -/
def attendW (q : Fin 64 → EReal) (k v : Fin 2048 → Fin 64 → EReal) (d : Fin 64) : EReal :=
  Ideal.div (∑ x, weight q k x * v x d) (∑ y, weight q k y)

theorem attendW_eq {q : Fin 64 → EReal} {k : Fin 2048 → Fin 64 → EReal} (hq : ∀ d, IsReal (q d))
    (hk : ∀ x d, IsReal (k x d)) (v : Fin 2048 → Fin 64 → EReal) (d : Fin 64) : attendW q k v d = attend q k v d :=
  softmax (s := fun x => score q (k x)) (fun x => IsReal.sum fun d => (hq d).mul (hk x d)) (fun x => v x d)
    (fold_max_real fun x => IsReal.sum fun d => (hq d).mul (hk x d))

/-- Place `d` of a group's transform at position with cosines `A1` and sines `A2`, through the group's map. -/
def mix (A1 A2 : Fin 2048 → EReal) (u : Fin 2048 → Fin 64 → EReal) (B1 B2 : Fin 64 → Fin 64 → EReal)
    (w : Fin 64 → EReal) : EReal :=
  ∑ c, w c * (((∑ c', (∑ t, u t c' * A1 t) * B1 c' c) - ∑ c', (∑ t, u t c' * A2 t) * B2 c' c)
    * Ideal.ofBits .f32 0x3B3504F3#32)

/-- The kernel's form: the channels first, with scaled tables. -/
def mixW (A1 A2 : Fin 2048 → EReal) (u : Fin 2048 → Fin 64 → EReal) (B1 B2 : Fin 64 → Fin 64 → EReal)
    (w : Fin 64 → EReal) : EReal :=
  (∑ t, A1 t * Ideal.ofBits .f32 0x3CB504F3#32 * ∑ c', u t c' * ∑ c, B1 c' c * Ideal.ofBits .f32 0x3E000000#32 * w c)
    + ∑ t, -(A2 t * Ideal.ofBits .f32 0x3CB504F3#32) * ∑ c', u t c' * ∑ c, B2 c' c * Ideal.ofBits .f32 0x3E000000#32 * w c

theorem w_root : ∃ r : ℝ, Ideal.ofBits .f32 0x3CB504F3#32 = (r : EReal)
    ∧ Ideal.ofBits .f32 0x3B3504F3#32 = ((r * (1 / 8) : ℝ) : EReal) := by
  refine ⟨11863283 / 536870912, ?_, ?_⟩
  · simp [Ideal.ofBits, Ideal.ieee]; rw [← EReal.coe_mul]; norm_num
  · rw [EReal.coe_mul]; simp [Ideal.ofBits, Ideal.ieee]; rw [← EReal.coe_mul, ← EReal.coe_mul]; norm_num

theorem mixW_eq {A1 A2 : Fin 2048 → EReal} {u : Fin 2048 → Fin 64 → EReal} {B1 B2 : Fin 64 → Fin 64 → EReal}
    {w : Fin 64 → EReal} (hA1 : ∀ t, IsReal (A1 t)) (hA2 : ∀ t, IsReal (A2 t)) (hu : ∀ t c, IsReal (u t c))
    (hB1 : ∀ a b, IsReal (B1 a b)) (hB2 : ∀ a b, IsReal (B2 a b)) (hw : ∀ c, IsReal (w c)) :
    mixW A1 A2 u B1 B2 w = mix A1 A2 u B1 B2 w := by
  obtain ⟨r, h1, h2⟩ := w_root
  unfold mixW mix
  exact transform hA1 hA2 hu hB1 hB2 hw (by rw [h1]; exact .coe _) (by rw [w8th]; exact .coe _)
    (by rw [h1, h2, w8th, EReal.coe_mul])

end Cert.Spec

end
-- ==== Proof.Angles.lean ====
/-
The angles of the layer: those of the rotary embedding and those of the two Fourier transforms. Each is a real number.
-/
module

public import proofs.«01_k».proof.Proof.Spec

@[expose] public section

noncomputable section

namespace Cert.Angles

open Cert.Reals Idealize.ShloMosaic

/-- The rate of rotary pair `k`: 10000 to the power `-2k/32`. -/
def rate (k : ℕ) : EReal :=
  Ideal.pow (Ideal.ofBits .f32 0x461C4000#32)
    (Ideal.div (-(Ideal.ofBits .f32 0x40000000#32 * FloatOps.sitofp (F := Ideal) (φ := .f32) (BitVec.ofNat 32 k)))
      (Ideal.ofBits .f32 0x42000000#32))

/-- The rotary angle of token `s` at lane `d` of a head: the token's row in a 64-wide image turns the first 32 lanes, its
    column the last 32; lanes 16 apart share a rate. -/
def rot (s : Fin 2048) (d : Fin 64) : EReal :=
  FloatOps.sitofp (F := Ideal) (φ := .f32) (BitVec.ofNat 32 (if d.val < 32 then s.val / 64 else s.val % 64)) * rate (d.val % 16)

/-- The transform's angle over tokens: `2π/2048` times `s t` reduced modulo 2048. -/
def overTokens (s t : Fin 2048) : EReal :=
  Ideal.ofBits .f32 0x3B490FDB#32 * FloatOps.sitofp (F := Ideal) (φ := .f32)
    (IntOp.remsi .host (IntOp.muli (BitVec.ofNat 32 s.val) (BitVec.ofNat 32 t.val)) 2048#32)

/-- The transform's angle over channels: `2π/64` times `i j` reduced modulo 64. -/
def overLanes (i j : Fin 64) : EReal :=
  Ideal.ofBits .f32 0x3DC90FDB#32 * FloatOps.sitofp (F := Ideal) (φ := .f32)
    (IntOp.remsi .host (IntOp.muli (BitVec.ofNat 32 i.val) (BitVec.ofNat 32 j.val)) 64#32)

theorem word_real (w : BitVec 32) : IsReal (FloatOps.sitofp (F := Ideal) (φ := .f32) w) := ⟨_, rfl⟩

theorem w2 : Ideal.ofBits .f32 0x40000000#32 = ((2 : ℝ) : EReal) := by
  simp [Ideal.ofBits, Ideal.ieee]; rw [← EReal.coe_mul]; norm_num
theorem w32 : Ideal.ofBits .f32 0x42000000#32 = ((32 : ℝ) : EReal) := by
  simp [Ideal.ofBits, Ideal.ieee]; rw [← EReal.coe_mul]; norm_num
theorem w10000 : Ideal.ofBits .f32 0x461C4000#32 = ((10000 : ℝ) : EReal) := by
  simp [Ideal.ofBits, Ideal.ieee]; rw [← EReal.coe_mul]; norm_num
theorem wTok : IsReal (Ideal.ofBits .f32 0x3B490FDB#32) := by
  simp [Ideal.ofBits, Ideal.ieee]; rw [← EReal.coe_mul]; exact ⟨_, rfl⟩
theorem wLane : IsReal (Ideal.ofBits .f32 0x3DC90FDB#32) := by
  simp [Ideal.ofBits, Ideal.ieee]; rw [← EReal.coe_mul]; exact ⟨_, rfl⟩

theorem rate_real (k : ℕ) : IsReal (rate k) := by
  obtain ⟨a, ha⟩ := word_real (BitVec.ofNat 32 k)
  unfold rate
  rw [ha, w2, w32, w10000, ← EReal.coe_mul, ← EReal.coe_neg, Ideal.div_coe (by norm_num)]
  exact ⟨_, rfl⟩

theorem rot_real (s : Fin 2048) (d : Fin 64) : IsReal (rot s d) := (word_real _).mul (rate_real _)
theorem overTokens_real (s t : Fin 2048) : IsReal (overTokens s t) := wTok.mul (word_real _)
theorem overLanes_real (i j : Fin 64) : IsReal (overLanes i j) := wLane.mul (word_real _)

/-- Lanes 64 apart share an angle, and both halves of 16 lanes do. -/
theorem rot_of (s : Fin 2048) (d : Fin 64) (r k : ℕ) (hr : r = if d.val < 32 then s.val / 64 else s.val % 64) (hk : k = d.val % 16) :
    FloatOps.sitofp (F := Ideal) (φ := .f32) (BitVec.ofNat 32 r) * Ideal.pow (Ideal.ofBits .f32 0x461C4000#32)
      (Ideal.div (-(Ideal.ofBits .f32 0x40000000#32 * FloatOps.sitofp (F := Ideal) (φ := .f32) (BitVec.ofNat 32 k)))
        (Ideal.ofBits .f32 0x42000000#32)) = rot s d := by
  subst hr; subst hk; rfl

end Cert.Angles

end
-- ==== Proof.InLanes.lean ====
/- The lane arithmetic of the projection kernel, on plain functions: a 128-lane chunk rotated by two lane shifts is, head by
   head, the rotation of `Spec.rope`; a product with a block-diagonal matrix of 1/64 is, head by head, a mean. -/
module

public import proofs.«01_k».proof.Proof.Spec

@[expose] public section

noncomputable section

namespace Cert.InLanes

open Idealize.ShloMosaic Cert.Spec

/-- The place of a lane in its head. -/
abbrev place {n : ℕ} (c : Fin n) : Fin 64 := ⟨c.val % 64, Nat.mod_lt _ (by norm_num)⟩

/-- A 128-lane chunk `f` against tables `C` and `S`: each lane with the lane 16 places on or 16 places back. -/
def turned (f C S : Fin 128 → EReal) (c : Fin 128) : EReal :=
  f c * C c + Scalar.select (if c.val % 32 < 16 then 1#1 else 0#1) (f ⟨(c.val + 128 - 112) % 128, Nat.mod_lt _ (by norm_num)⟩)
    (f ⟨(c.val + 128 - 16) % 128, Nat.mod_lt _ (by norm_num)⟩) * S c

/-- With the cosines, and with the sines negated in the first half of each axis, that is each head's rotation. -/
theorem turned_eq (f C S : Fin 128 → EReal) (a : Fin 64 → EReal) (hC : ∀ c, C c = Ideal.cos (a (place c)))
    (hS : ∀ c : Fin 128, S c = if c.val % 32 < 16 then -Ideal.sin (a (place c)) else Ideal.sin (a (place c))) (c : Fin 128) :
    turned f C S c = rope (fun i => f ⟨64 * (c.val / 64) + i.val, by have := c.isLt; have := i.isLt; omega⟩) a (place c) := by
  have hc := c.isLt
  have e0 : (⟨64 * (c.val / 64) + (place c).val, by have := (place c).isLt; omega⟩ : Fin 128) = c := by
    ext; show 64 * (c.val / 64) + c.val % 64 = c.val; omega
  unfold turned rope
  by_cases h : c.val % 32 < 16
  · have h' : (place c).val % 32 < 16 := by show c.val % 64 % 32 < 16; omega
    rw [dif_pos h', if_pos h, hC, hS, if_pos h]
    beta_reduce
    rw [e0]
    have e1 : (⟨64 * (c.val / 64) + (up (place c) h').val, by have := (up (place c) h').isLt; omega⟩ : Fin 128)
        = ⟨(c.val + 128 - 112) % 128, Nat.mod_lt _ (by norm_num)⟩ := by
      ext; show 64 * (c.val / 64) + (c.val % 64 + 16) = (c.val + 128 - 112) % 128; omega
    rw [e1, mul_neg, ← sub_eq_add_neg]
    rfl
  · have h' : ¬ (place c).val % 32 < 16 := by show ¬ c.val % 64 % 32 < 16; omega
    rw [dif_neg h', if_neg h, hC, hS, if_neg h]
    beta_reduce
    rw [e0]
    have e1 : (⟨64 * (c.val / 64) + (down (place c)).val, by have := (down (place c)).isLt; omega⟩ : Fin 128)
        = ⟨(c.val + 128 - 16) % 128, Nat.mod_lt _ (by norm_num)⟩ := by
      ext; show 64 * (c.val / 64) + (c.val % 64 - 16) = (c.val + 128 - 16) % 128; omega
    rw [e1, add_comm]
    rfl

/-- A sum over `H` heads of 64 against weights that vanish off head `h` is the sum over that head. -/
theorem head_sum (H : ℕ) (F : Fin (H * 64) → EReal) (w : EReal) (h : ℕ) (hh : h < H) :
    ∑ k : Fin (H * 64), F k * (if k.val / 64 = h then w else 0)
      = ∑ i : Fin 64, F ⟨64 * h + i.val, by have := i.isLt; omega⟩ * w := by
  rw [Fin.sum_univ_tiles H 64 rfl, Finset.sum_eq_single (⟨h, hh⟩ : Fin H)]
  · refine Finset.sum_congr rfl fun i _ => ?_
    have hi := i.isLt
    rw [if_pos (by simp; omega)]
    congr 2
    ext
    simp; omega
  · intro b _ hb
    refine Finset.sum_eq_zero fun i _ => ?_
    have hi := i.isLt
    have : b.val ≠ h := fun e => hb (Fin.ext e)
    rw [if_neg (by simp; omega), mul_zero]
  · simp

end Cert.InLanes

end
-- ==== Proof.Tables.lean ====
/- The two stored averaging tables, entry by entry: 1/64 where row and column lie in one block of 64, 0 elsewhere. A stored
   table is a list of pieces of 128 entries, and only three pieces occur: the first half filled, the second half filled, empty. -/
module

public import proofs.«01_k».proof.LayerIdeal
public import Mathlib.Tactic.IntervalCases

@[expose] public section

set_option maxRecDepth 16384

namespace Cert.LayerIdeal.Tables

open Cert.LayerIdeal

/-- A piece with its first half filled. -/
theorem first_half : ∀ i : Fin 128, lit0t0_0 i.val = if i.val < 64 then 0x3C800000#32 else 0#32 := by
  decide +kernel

/-- A piece with its second half filled. -/
theorem second_half : ∀ i : Fin 128, lit0t0_128 i.val = if i.val < 64 then 0#32 else 0x3C800000#32 := by
  decide +kernel

/-- An empty piece. -/
theorem empty : ∀ i : Fin 128, lit0t0_1 i.val = 0#32 := by
  decide +kernel

theorem first_at (n : Nat) : lit0t0_0 n = if n % 128 < 64 then 0x3C800000#32 else 0#32 :=
  (show lit0t0_0 n = lit0t0_0 (n % 128) by unfold lit0t0_0; rw [Nat.mod_mod]).trans (first_half ⟨n % 128, by omega⟩)

theorem second_at (n : Nat) : lit0t0_128 n = if n % 128 < 64 then 0#32 else 0x3C800000#32 :=
  (show lit0t0_128 n = lit0t0_128 (n % 128) by unfold lit0t0_128; rw [Nat.mod_mod]).trans (second_half ⟨n % 128, by omega⟩)

theorem empty_at (n : Nat) : lit0t0_1 n = 0#32 :=
  (show lit0t0_1 n = lit0t0_1 (n % 128) by unfold lit0t0_1; rw [Nat.mod_mod]).trans (empty ⟨n % 128, by omega⟩)

theorem quarter0 (n a : Nat) (h : a < 128) (e : n / 128 % 128 = a) : lit0t1_0 n = if a % 2 = 0 then lit0t0_0 n else lit0t0_1 n := by
  unfold lit0t1_0
  rw [e]
  clear e
  interval_cases a <;> rfl

theorem quarter1 (n a : Nat) (h : a < 128) (e : n / 128 % 128 = a) : lit0t1_1 n = if a % 2 = 0 then lit0t0_128 n else lit0t0_1 n := by
  unfold lit0t1_1
  rw [e]
  clear e
  interval_cases a <;> rfl

theorem quarter2 (n a : Nat) (h : a < 128) (e : n / 128 % 128 = a) : lit0t1_2 n = if a % 2 = 0 then lit0t0_1 n else lit0t0_0 n := by
  unfold lit0t1_2
  rw [e]
  clear e
  interval_cases a <;> rfl

theorem quarter3 (n a : Nat) (h : a < 128) (e : n / 128 % 128 = a) : lit0t1_3 n = if a % 2 = 0 then lit0t0_1 n else lit0t0_128 n := by
  unfold lit0t1_3
  rw [e]
  clear e
  interval_cases a <;> rfl

theorem halves (n a : Nat) (h : a < 128) (e : n / 128 = a) : lit1t n = if a < 64 then lit0t0_0 n else lit0t0_128 n := by
  unfold lit1t
  rw [e]
  clear e
  interval_cases a <;> rfl

theorem quarters (n a : Nat) (h : a < 4) (e : n / 16384 = a) :
    lit0t n = if a = 0 then lit0t1_0 n else if a = 1 then lit0t1_1 n else if a = 2 then lit0t1_2 n else lit0t1_3 n := by
  unfold lit0t
  rw [e]
  clear e
  interval_cases a <;> rfl

/-- The stored table of the query heads at row `s`, column `j`. -/
theorem lit_q (s j : Fin 256) : lit0t (s.val * 256 + j.val) = if s.val / 64 = j.val / 64 then 0x3C800000#32 else 0#32 := by
  have hs := s.isLt
  have hj := j.isLt
  rw [quarters _ (s.val / 64) (by omega) (by omega), quarter0 _ _ (by omega) rfl, quarter1 _ _ (by omega) rfl,
    quarter2 _ _ (by omega) rfl, quarter3 _ _ (by omega) rfl, first_at, second_at, empty_at]
  split_ifs <;> first | rfl | omega

/-- The stored table of the key heads at row `s`, column `j`. -/
theorem lit_k (s j : Fin 128) : lit1t (s.val * 128 + j.val) = if s.val / 64 = j.val / 64 then 0x3C800000#32 else 0#32 := by
  have hs := s.isLt
  have hj := j.isLt
  rw [halves _ s.val (by omega) (by omega), first_at, second_at]
  split_ifs <;> first | rfl | omega

end Cert.LayerIdeal.Tables

end
-- ==== Proof.HostIn.lean ====
/- What the host leaves before the first call, at an index: the arguments regrouped, the rotary tables and the two
   averaging tables. -/
module

public import proofs.«01_k».proof.Proof.Angles
public import proofs.«01_k».proof.Proof.InLanes
public import proofs.«01_k».proof.Proof.Gen.LayerIdeal.Frame
public import proofs.«01_k».proof.Proof.Tables
public import Idealize.ShloMosaic.Lib.Pipeline.ValueKit

@[expose] public section

set_option maxRecDepth 16384

noncomputable section

namespace Cert.LayerIdeal.HostIn

open Cert.LayerIdeal Cert.LayerIdeal.Gen Cert.Spec Cert.Angles Cert.InLanes Idealize.ShloMosaic Idealize.SL.Sem
open Idealize.ShloMosaic.TcCoe

variable (m : (ℓ : Loc nD τ sig) → Buf (Elt Ideal) ℓ) (ρ : Dev nD → PrngReg) (c : Dev nD)

theorem cos1 (s : Fin 2048) (j : Fin 128) :
    (W1 m ρ c (Proc.devRef .tc main_v40) : FVec Ideal S2048x128 .f32) (ix2 s j) = Ideal.cos (rot s (place j)) := by
  have hj := j.isLt
  after_results_simp
  pointwise
  after_results_simp
  pointwise
  split_ifs <;>
    exact congrArg Ideal.cos (rot_of s (place j) _ _ (by show _ = if j.val % 64 < 32 then _ else _; split_ifs <;> first | rfl | omega)
      (by show _ = j.val % 64 % 16; omega))

theorem sin1 (s : Fin 2048) (j : Fin 128) :
    (W1 m ρ c (Proc.devRef .tc main_v43) : FVec Ideal S2048x128 .f32) (ix2 s j)
      = if j.val % 32 < 16 then -Ideal.sin (rot s (place j)) else Ideal.sin (rot s (place j)) := by
  have hj := j.isLt
  after_results_simp
  pointwise
  after_results_simp
  pointwise
  split_ifs <;> first
    | (exfalso; omega)
    | exact congrArg Ideal.sin (rot_of s (place j) _ _ (by show _ = if j.val % 64 < 32 then _ else _; split_ifs <;> first | rfl | omega)
      (by show _ = j.val % 64 % 16; omega))
    | exact congrArg (fun x : EReal => -Ideal.sin x) (rot_of s (place j) _ _ (by show _ = if j.val % 64 < 32 then _ else _; split_ifs <;> first | rfl | omega)
      (by show _ = j.val % 64 % 16; omega))

theorem quot256 : ∀ s : Fin 256, IntOp.divsi .host (BitVec.ofNat 32 s.val) 64#32 = BitVec.ofNat 32 (s.val / 64) := by
  decide +kernel

theorem same_block : ∀ a b : Fin 4, IntOp.cmpi .eq (BitVec.ofNat 32 a.val) (BitVec.ofNat 32 b.val) = if a = b then 1#1 else 0#1 := by
  decide +kernel

/-- Two indices are in one block of 64 exactly when the integer test on their quotients says so. -/
theorem block_test (s j : Fin 256) :
    (IntOp.cmpi .eq (IntOp.divsi .host (BitVec.ofNat 32 s.val) 64#32) (IntOp.divsi .host (BitVec.ofNat 32 j.val) 64#32) = 1#1)
      ↔ s.val / 64 = j.val / 64 := by
  have hs := s.isLt
  have hj := j.isLt
  rw [quot256, quot256]
  have := same_block ⟨s.val / 64, by omega⟩ ⟨j.val / 64, by omega⟩
  rw [show IntOp.cmpi .eq (BitVec.ofNat 32 (s.val / 64)) (BitVec.ofNat 32 (j.val / 64)) = _ from this]
  by_cases h : s.val / 64 = j.val / 64 <;> simp [h]

theorem lit0_val (i : Fin 65536) : lit0 i = lit0t i.val := by
  cases i; rfl

theorem lit1_val (i : Fin 16384) : lit1 i = lit1t i.val := by
  cases i; rfl

/-- A function of positions, read at the position of row `s`, column `j`. -/
theorem at_q (f : Fin 65536 → BitVec 32) (s j : Fin 256) :
    f (S256x256.rowMajor (ix2 s j)) = f ⟨s.val * 256 + j.val, by have := s.isLt; have := j.isLt; omega⟩ :=
  congrArg f (@Fin.ext 65536 _ _ (Shape.rowMajor_val_two (d := ![256, 256]) (ix2 s j)))

theorem at_k (f : Fin 16384 → BitVec 32) (s j : Fin 128) :
    f (S128x128.rowMajor (ix2 s j)) = f ⟨s.val * 128 + j.val, by have := s.isLt; have := j.isLt; omega⟩ :=
  congrArg f (@Fin.ext 16384 _ _ (Shape.rowMajor_val_two (d := ![128, 128]) (ix2 s j)))

theorem bq1 (s j : Fin 256) :
    (W1 m ρ c (Proc.devRef .tc main_v52) : FVec Ideal S256x256 .bf16) (ix2 s j)
      = if s.val / 64 = j.val / 64 then Ideal.ofBits .f32 0x3C800000#32 else 0 := by
  after_results_simp
  generalize hf : lit0 = f
  refine (congrArg (Ideal.ofBits .f32) (at_q f s j)).trans ?_
  rw [← hf, lit0_val, Tables.lit_q, apply_ite (Ideal.ofBits .f32), Ideal.ofBits_zero_f32]

theorem bk1 (s j : Fin 128) :
    (W1 m ρ c (Proc.devRef .tc main_v53) : FVec Ideal S128x128 .bf16) (ix2 s j)
      = if s.val / 64 = j.val / 64 then Ideal.ofBits .f32 0x3C800000#32 else 0 := by
  after_results_simp
  generalize hf : lit1 = f
  refine (congrArg (Ideal.ofBits .f32) (at_k f s j)).trans ?_
  rw [← hf, lit1_val, Tables.lit_k, apply_ite (Ideal.ofBits .f32), Ideal.ofBits_zero_f32]

theorem x1 (r : Fin 32768) (e : Fin 1024) :
    (W1 m ρ c (Proc.devRef .tc main_v0) : FVec Ideal S32768x1024 .f32) (ix2 r e)
      = (m (c.tc.loc main_arg0) : FVec Ideal S16x2048x1024 .f32)
          (ix3 ⟨r.val / 2048, by have := r.isLt; omega⟩ ⟨r.val % 2048, by omega⟩ e) := by
  after_results_simp
  pointwise

theorem g1 (e : Fin 1024) :
    (W1 m ρ c (Proc.devRef .tc main_v54) : FVec Ideal S1x1024 .f32) (ix2 0 e)
      = (m (c.tc.loc main_arg1) : FVec Ideal S1024 .f32) (ix1 e) := by
  after_results_simp
  pointwise

theorem w1 (d : Fin 1024) (e : Fin 1280) :
    (W1 m ρ c (Proc.devRef .tc main_v55) : FVec Ideal S1024x1280 .bf16) (ix2 d e)
      = (m (c.tc.loc main_arg2) : FVec Ideal S1024x1280 .f32) (ix2 d e) := by
  after_results_simp
  pointwise

theorem q1 (j : Fin 128) :
    (W1 m ρ c (Proc.devRef .tc main_v47) : FVec Ideal S1x128 .f32) (ix2 0 j)
      = (m (c.tc.loc main_arg3) : FVec Ideal S64 .f32) (ix1 (place j)) := by
  after_results_simp
  pointwise

theorem k1 (j : Fin 128) :
    (W1 m ρ c (Proc.devRef .tc main_v51) : FVec Ideal S1x128 .f32) (ix2 0 j)
      = (m (c.tc.loc main_arg4) : FVec Ideal S64 .f32) (ix1 (place j)) := by
  after_results_simp
  pointwise

end Cert.LayerIdeal.HostIn

end
-- ==== Proof.InBlock.lean ====
/- What one grid point of the projection kernel computes, token by token: the scaled query heads, the key head and the value
   head of each group four times over, and the transform's input. -/
module

public import proofs.«01_k».proof.Proof.InLanes
public import proofs.«01_k».proof.Proof.Gen.LayerIdeal.Frame
public import Idealize.ShloMosaic.Lib.Pipeline.ValueKit

@[expose] public section

set_option maxRecDepth 16384

noncomputable section

namespace Cert.LayerIdeal.InBlock

open Cert.LayerIdeal Cert.LayerIdeal.Gen Cert.Spec Cert.InLanes Cert.MlpRows Idealize.ShloMosaic Idealize.SL.Sem

variable (x0 : FVec Ideal S512x1024 .f32) (x1 : FVec Ideal S1x1024 .f32) (x2 : FVec Ideal S1024x1280 .bf16)
  (x3 x4 : FVec Ideal S1x128 .f32) (x5 x6 : FVec Ideal S512x128 .f32) (x7 : FVec Ideal S256x256 .bf16)
  (x8 : FVec Ideal S128x128 .bf16)

/-- The projection of row `r` of the block. -/
abbrev tok (r : Fin 512) : Fin 1280 → EReal :=
  proj (fun d => x0 (ix2 r d)) (fun d => x1 (ix2 0 d)) (fun d e => x2 (ix2 d e))

theorem pay25_at (r : Fin 512) (e : Fin 1280) :
    k0_pay25 (F := Ideal) x0 x1 x2 x3 x4 x5 x6 x7 x8 (ix2 r e) = tok x0 x1 x2 r e := by
  pointwise [k0_pay25, k0_pay2]
  unfold tok proj rms
  blk_point

/-- The lanes in the first half of an axis. -/
theorem first_at (r : Fin 512) (c : Fin 128) :
    k0_pay8 k0_pay5 k0_pay6 k0_pay7 (ix2 r c : S512x128.Idx) = if c.val % 32 < 16 then 1#1 else 0#1 := by
  pointwise [k0_pay8, k0_pay5, k0_pay6, k0_pay7]
  revert c
  decide +kernel

/-- The lanes of the first head of a chunk. -/
theorem low_at (r : Fin 512) (c : Fin 128) :
    k0_pay9 (iota .tc S512x128 32 [1] iota_S512x128_d1_w32) (ix2 r c : S512x128.Idx) = if c.val < 64 then 1#1 else 0#1 := by
  pointwise [k0_pay9]
  revert c
  decide +kernel

/-! ## Queries -/

/-- Lane `j` of the chunk that starts at column `b + o` of a projection `p`, normalised in the block of 256 columns from `b`. -/
def qn (p : Fin 1280 → EReal) (w : FVec Ideal S256x256 .bf16) (g : FVec Ideal S1x128 .f32) (b o : ℕ)
    (hb : b + 256 ≤ 1280) (ho : o + 128 ≤ 256) (j : Fin 128) : EReal :=
  p ⟨b + (o + j.val), by have := j.isLt; omega⟩
    * (Ideal.rsqrt ((∑ x : Fin 256, p ⟨b + x.val, by have := x.isLt; omega⟩ * p ⟨b + x.val, by have := x.isLt; omega⟩
        * w (ix2 x ⟨o + j.val, by have := j.isLt; omega⟩)) + Ideal.ofBits .f32 0x358637BD#32) * Ideal.ofBits .f32 0x3E000000#32)
    * g (ix2 0 j)

variable (T : FVec Ideal S512x1280 .f32) (v21 v23 : FVec Ideal S512x128 .f32)

theorem pay11_at (r : Fin 512) (c : Fin 128) :
    k0_pay11 (F := Ideal) T v21 v23 k0_pay5 k0_pay6 k0_pay7 x7 x3 (ix2 r c)
      = turned (qn (fun e => T (ix2 r e)) x7 x3 0 0 (by norm_num) (by norm_num)) (fun j => v21 (ix2 r j)) (fun j => v23 (ix2 r j)) c := by
  pointwise [k0_pay11, k0_pay10]
  simp only [first_at, turned, qn, zero_add]

theorem pay12_at (r : Fin 512) (c : Fin 128) :
    k0_pay13 (k0_pay12 (F := Ideal) T v21 v23 k0_pay5 k0_pay6 k0_pay7 x7 x3) (ix2 r c)
      = turned (qn (fun e => T (ix2 r e)) x7 x3 0 128 (by norm_num) (by norm_num)) (fun j => v21 (ix2 r j)) (fun j => v23 (ix2 r j)) c := by
  pointwise [k0_pay13, k0_pay12, k0_pay10]
  simp only [first_at, turned, qn, zero_add]

theorem pay15_at (r : Fin 512) (c : Fin 128) :
    k0_pay15 (F := Ideal) T v21 v23 (k0_pay8 k0_pay5 k0_pay6 k0_pay7) x7 x3 (ix2 r c)
      = turned (qn (fun e => T (ix2 r e)) x7 x3 256 0 (by norm_num) (by norm_num)) (fun j => v21 (ix2 r j)) (fun j => v23 (ix2 r j)) c := by
  pointwise [k0_pay15, k0_pay14]
  simp only [first_at, turned, qn, zero_add]

theorem pay16_at (r : Fin 512) (c : Fin 128) :
    k0_pay16 (F := Ideal) T v21 v23 (k0_pay8 k0_pay5 k0_pay6 k0_pay7) x7 x3 (ix2 r c)
      = turned (qn (fun e => T (ix2 r e)) x7 x3 256 128 (by norm_num) (by norm_num)) (fun j => v21 (ix2 r j)) (fun j => v23 (ix2 r j)) c := by
  pointwise [k0_pay16, k0_pay14]
  simp only [first_at, turned, qn, zero_add]

/-! ## Keys and values -/

/-- Lane `j` of the two key heads of a projection `p`, normalised. -/
def kn (p : Fin 1280 → EReal) (w : FVec Ideal S128x128 .bf16) (g : FVec Ideal S1x128 .f32) (j : Fin 128) : EReal :=
  p ⟨512 + j.val, by have := j.isLt; omega⟩
    * Ideal.rsqrt ((∑ x : Fin 128, p ⟨512 + x.val, by have := x.isLt; omega⟩ * p ⟨512 + x.val, by have := x.isLt; omega⟩
        * w (ix2 x j)) + Ideal.ofBits .f32 0x358637BD#32)
    * g (ix2 0 j)

theorem pay17_at (r : Fin 512) (c : Fin 128) :
    k0_pay17 (F := Ideal) T v21 v23 (k0_pay8 k0_pay5 k0_pay6 k0_pay7) x8 x4 (ix2 r c)
      = turned (kn (fun e => T (ix2 r e)) x8 x4) (fun j => v21 (ix2 r j)) (fun j => v23 (ix2 r j)) c := by
  pointwise [k0_pay17]
  simp only [first_at, turned, kn]

/-- The lane 64 places on, the other head's same place. -/
abbrev other (c : Fin 128) : Fin 128 := ⟨(c.val + 128 - 64) % 128, Nat.mod_lt _ (by norm_num)⟩

theorem pay20_at (r : Fin 512) (c : Fin 128) :
    k0_pay20 (F := Ideal) T v21 v23 (k0_pay8 k0_pay5 k0_pay6 k0_pay7) (k0_pay9 (iota .tc S512x128 32 [1] iota_S512x128_d1_w32)) x8 x4 (ix2 r c)
      = turned (kn (fun e => T (ix2 r e)) x8 x4) (fun j => v21 (ix2 r j)) (fun j => v23 (ix2 r j)) (if c.val < 64 then c else other c) := by
  pointwise [k0_pay20, k0_pay19]
  rw [low_at]
  split
  · exact pay17_at x4 x8 T v21 v23 r c
  · exact pay17_at x4 x8 T v21 v23 r (other c)

theorem pay21_at (r : Fin 512) (c : Fin 128) :
    k0_pay21 (F := Ideal) T v21 v23 (k0_pay8 k0_pay5 k0_pay6 k0_pay7) (k0_pay9 (iota .tc S512x128 32 [1] iota_S512x128_d1_w32)) x8 x4 (ix2 r c)
      = turned (kn (fun e => T (ix2 r e)) x8 x4) (fun j => v21 (ix2 r j)) (fun j => v23 (ix2 r j)) (if c.val < 64 then other c else c) := by
  pointwise [k0_pay21, k0_pay19]
  rw [low_at]
  split
  · exact pay17_at x4 x8 T v21 v23 r (other c)
  · exact pay17_at x4 x8 T v21 v23 r c

theorem pay23_at (r : Fin 512) (c : Fin 128) :
    k0_pay23 (F := Ideal) T (k0_pay9 (iota .tc S512x128 32 [1] iota_S512x128_d1_w32)) (ix2 r c)
      = T (ix2 r ⟨640 + c.val % 64, by omega⟩) := by
  pointwise [k0_pay23, k0_pay22, k0_pay18]
  rw [low_at]
  have hc := c.isLt
  split
  · exact congrArg (fun e => T (ix2 r e)) (Fin.ext (by simp; omega))
  · exact congrArg (fun e => T (ix2 r e)) (Fin.ext (by simp; omega))

theorem pay24_at (r : Fin 512) (c : Fin 128) :
    k0_pay24 (F := Ideal) T (k0_pay9 (iota .tc S512x128 32 [1] iota_S512x128_d1_w32)) (ix2 r c)
      = T (ix2 r ⟨704 + c.val % 64, by omega⟩) := by
  pointwise [k0_pay24, k0_pay22, k0_pay18]
  rw [low_at]
  have hc := c.isLt
  split
  · exact congrArg (fun e => T (ix2 r e)) (Fin.ext (by simp; omega))
  · exact congrArg (fun e => T (ix2 r e)) (Fin.ext (by simp; omega))

/-! ## With the tables -/

/-- What the tables hold: the weight of each head twice over, the angles' cosines and signed sines, and 1/64 on the blocks
    of 64 lanes. -/
structure Tables (gq gk : Fin 64 → EReal) (a : Fin 512 → Fin 64 → EReal) : Prop where
  q : ∀ j : Fin 128, x3 (ix2 0 j) = gq (place j)
  k : ∀ j : Fin 128, x4 (ix2 0 j) = gk (place j)
  cos : ∀ (r : Fin 512) (j : Fin 128), x5 (ix2 r j) = Ideal.cos (a r (place j))
  sin : ∀ (r : Fin 512) (j : Fin 128), x6 (ix2 r j)
    = if j.val % 32 < 16 then -Ideal.sin (a r (place j)) else Ideal.sin (a r (place j))
  bq : ∀ i j : Fin 256, x7 (ix2 i j) = if i.val / 64 = j.val / 64 then Ideal.ofBits .f32 0x3C800000#32 else 0
  bk : ∀ i j : Fin 128, x8 (ix2 i j) = if i.val / 64 = j.val / 64 then Ideal.ofBits .f32 0x3C800000#32 else 0

/-- Head `h` of a projection: 64 columns from column `64 h`. -/
abbrev head (p : Fin 1280 → EReal) (h : Fin 20) (i : Fin 64) : EReal :=
  p ⟨64 * h.val + i.val, by have := h.isLt; have := i.isLt; omega⟩

variable {x3 x4 x5 x6 x7 x8} {gq gk : Fin 64 → EReal} {a : Fin 512 → Fin 64 → EReal} (t : Tables x3 x4 x5 x6 x7 x8 gq gk a)
include t

theorem qn_eq (p : Fin 1280 → EReal) (b o : ℕ) (hb : b + 256 ≤ 1280) (ho : o + 128 ≤ 256) (hb' : b % 64 = 0) (ho' : o % 64 = 0)
    (r : Fin 512) (c : Fin 128) :
    turned (qn p x7 x3 b o hb ho) (fun j => x5 (ix2 r j)) (fun j => x6 (ix2 r j)) c
      = qheadW (head p ⟨(b + o + c.val) / 64, by have := c.isLt; omega⟩) gq (a r) (place c) := by
  rw [turned_eq _ _ _ (a r) (t.cos r) (t.sin r)]
  unfold qheadW
  refine congrArg (fun f => rope f (a r) (place c)) (funext fun i => ?_)
  have hc := c.isLt
  have hi := i.isLt
  have e := head_sum 4 (fun x => p ⟨b + x.val, by have := x.isLt; omega⟩ * p ⟨b + x.val, by have := x.isLt; omega⟩)
    (Ideal.ofBits .f32 0x3C800000#32) ((o + c.val) / 64) (by omega)
  have ei : ∀ i : Fin 64, b + (64 * ((o + c.val) / 64) + i.val) = 64 * ((b + o + c.val) / 64) + i.val := fun i => by omega
  have eo : b + (o + (64 * (c.val / 64) + i.val)) = 64 * ((b + o + c.val) / 64) + i.val := by omega
  have ej : (o + (64 * (c.val / 64) + i.val)) / 64 = (o + c.val) / 64 := by omega
  simp only [ei] at e
  unfold qn head invW
  simp only [t.bq, t.q, eo, ej]
  rw [show (∑ x : Fin 256, _) = _ from e]
  congr 2
  ext
  show (64 * (c.val / 64) + i.val) % 64 = i.val
  omega

theorem kn_eq (p : Fin 1280 → EReal) (r : Fin 512) (c : Fin 128) :
    turned (kn p x8 x4) (fun j => x5 (ix2 r j)) (fun j => x6 (ix2 r j)) c
      = kheadW (head p ⟨8 + c.val / 64, by have := c.isLt; omega⟩) gk (a r) (place c) := by
  rw [turned_eq _ _ _ (a r) (t.cos r) (t.sin r)]
  unfold kheadW
  refine congrArg (fun f => rope f (a r) (place c)) (funext fun i => ?_)
  have hc := c.isLt
  have hi := i.isLt
  have e := head_sum 2 (fun x => p ⟨512 + x.val, by have := x.isLt; omega⟩ * p ⟨512 + x.val, by have := x.isLt; omega⟩)
    (Ideal.ofBits .f32 0x3C800000#32) (c.val / 64) (by omega)
  have ei : ∀ i : Fin 64, 512 + (64 * (c.val / 64) + i.val) = 64 * (8 + c.val / 64) + i.val := fun i => by omega
  have ej : (64 * (c.val / 64) + i.val) / 64 = c.val / 64 := by omega
  simp only [ei] at e
  unfold kn head invW
  simp only [t.bk, t.k, ei, ej]
  rw [show (∑ x : Fin 128, _) = _ from e]
  congr 2
  ext
  show (64 * (c.val / 64) + i.val) % 64 = i.val
  omega

/-! ## The four results -/

omit t in
theorem cos_eq : k0_pay26 (F := Ideal) x0 x1 x2 x3 x4 x5 x6 x7 x8 = x5 := by
  unfold k0_pay26
  frame_out
  funext i
  pointwise [k0_pay3]

omit t in
theorem sin_eq : k0_pay27 (F := Ideal) x0 x1 x2 x3 x4 x5 x6 x7 x8 = x6 := by
  unfold k0_pay27
  frame_out
  funext i
  pointwise [k0_pay4]

theorem out_q (r : Fin 512) (c : Fin 512) :
    out0_9 (F := Ideal) x0 x1 x2 x3 x4 x5 x6 x7 x8 (ix2 r c)
      = qheadW (head (tok x0 x1 x2 r) ⟨c.val / 64, by have := c.isLt; omega⟩) gq (a r) (place c) := by
  have ep : (fun e => k0_pay25 (F := Ideal) x0 x1 x2 x3 x4 x5 x6 x7 x8 (ix2 r e)) = tok x0 x1 x2 r :=
    funext fun e => pay25_at x0 x1 x2 x3 x4 x5 x6 x7 x8 r e
  unfold out0_9
  rw [cos_eq, sin_eq]
  frame_out
  canon_tiles i h
  all_goals
    idx_vars i
    obtain rfl : r = i0 := Fin.ext h0
    replace h1 : c.val = _ := h1
  · refine (pay16_at x3 x7 _ x5 x6 r i1).trans ?_
    rw [ep, qn_eq t _ 256 128 (by norm_num) (by norm_num) (by norm_num) (by norm_num) r i1]
    exact congrArg₂ (fun h j => qheadW (head (tok x0 x1 x2 r) h) gq (a r) j) (Fin.ext (by simp; omega)) (Fin.ext (by simp; omega))
  · refine (pay15_at x3 x7 _ x5 x6 r i1).trans ?_
    rw [ep, qn_eq t _ 256 0 (by norm_num) (by norm_num) (by norm_num) (by norm_num) r i1]
    exact congrArg₂ (fun h j => qheadW (head (tok x0 x1 x2 r) h) gq (a r) j) (Fin.ext (by simp; omega)) (Fin.ext (by simp; omega))
  · refine (pay12_at x3 x7 _ x5 x6 r i1).trans ?_
    rw [ep, qn_eq t _ 0 128 (by norm_num) (by norm_num) (by norm_num) (by norm_num) r i1]
    exact congrArg₂ (fun h j => qheadW (head (tok x0 x1 x2 r) h) gq (a r) j) (Fin.ext (by simp; omega)) (Fin.ext (by simp; omega))
  · refine (pay11_at x3 x7 _ x5 x6 r i1).trans ?_
    rw [ep, qn_eq t _ 0 0 (by norm_num) (by norm_num) (by norm_num) (by norm_num) r i1]
    exact congrArg₂ (fun h j => qheadW (head (tok x0 x1 x2 r) h) gq (a r) j) (Fin.ext (by simp; omega)) (Fin.ext (by simp; omega))

theorem out_k (r : Fin 512) (c : Fin 512) :
    out0_10 (F := Ideal) x0 x1 x2 x3 x4 x5 x6 x7 x8 (ix2 r c)
      = kheadW (head (tok x0 x1 x2 r) ⟨8 + c.val / 256, by have := c.isLt; omega⟩) gk (a r) (place c) := by
  have ep : (fun e => k0_pay25 (F := Ideal) x0 x1 x2 x3 x4 x5 x6 x7 x8 (ix2 r e)) = tok x0 x1 x2 r :=
    funext fun e => pay25_at x0 x1 x2 x3 x4 x5 x6 x7 x8 r e
  unfold out0_10
  rw [cos_eq, sin_eq]
  frame_out
  canon_tiles i h
  all_goals
    idx_vars i
    obtain rfl : r = i0 := Fin.ext h0
    replace h1 : c.val = _ := h1
  · refine (pay21_at x4 x8 _ x5 x6 r i1).trans ?_
    rw [ep, kn_eq t]
    refine congrArg₂ (fun h j => kheadW (head (tok x0 x1 x2 r) h) gk (a r) j) (Fin.ext ?_) (Fin.ext ?_) <;>
      split <;> simp <;> omega
  · refine (pay21_at x4 x8 _ x5 x6 r i1).trans ?_
    rw [ep, kn_eq t]
    refine congrArg₂ (fun h j => kheadW (head (tok x0 x1 x2 r) h) gk (a r) j) (Fin.ext ?_) (Fin.ext ?_) <;>
      split <;> simp <;> omega
  · refine (pay20_at x4 x8 _ x5 x6 r i1).trans ?_
    rw [ep, kn_eq t]
    refine congrArg₂ (fun h j => kheadW (head (tok x0 x1 x2 r) h) gk (a r) j) (Fin.ext ?_) (Fin.ext ?_) <;>
      split <;> simp <;> omega
  · refine (pay20_at x4 x8 _ x5 x6 r i1).trans ?_
    rw [ep, kn_eq t]
    refine congrArg₂ (fun h j => kheadW (head (tok x0 x1 x2 r) h) gk (a r) j) (Fin.ext ?_) (Fin.ext ?_) <;>
      split <;> simp <;> omega

omit t in
theorem out_v (r : Fin 512) (c : Fin 512) :
    out0_11 (F := Ideal) x0 x1 x2 x3 x4 x5 x6 x7 x8 (ix2 r c)
      = head (tok x0 x1 x2 r) ⟨10 + c.val / 256, by have := c.isLt; omega⟩ (place c) := by
  have ep := fun e => pay25_at x0 x1 x2 x3 x4 x5 x6 x7 x8 r e
  unfold out0_11
  canon_tiles i h
  all_goals
    idx_vars i
    obtain rfl : r = i0 := Fin.ext h0
    replace h1 : c.val = _ := h1
  · refine (pay24_at _ r i1).trans ((ep _).trans (congrArg (tok x0 x1 x2 r) (Fin.ext ?_)))
    simp [h1]; omega
  · refine (pay24_at _ r i1).trans ((ep _).trans (congrArg (tok x0 x1 x2 r) (Fin.ext ?_)))
    simp [h1]; omega
  · refine (pay23_at _ r i1).trans ((ep _).trans (congrArg (tok x0 x1 x2 r) (Fin.ext ?_)))
    simp [h1]; omega
  · refine (pay23_at _ r i1).trans ((ep _).trans (congrArg (tok x0 x1 x2 r) (Fin.ext ?_)))
    simp [h1]; omega

omit t in
theorem out_u (r : Fin 512) (c : Fin 512) :
    out0_12 (F := Ideal) x0 x1 x2 x3 x4 x5 x6 x7 x8 (ix2 r c)
      = tok x0 x1 x2 r ⟨768 + c.val, by have := c.isLt; omega⟩ := by
  have ep := fun e => pay25_at x0 x1 x2 x3 x4 x5 x6 x7 x8 r e
  unfold out0_12
  frame_out
  pointwise [k0_pay1]
  exact ep _

end Cert.LayerIdeal.InBlock
-- ==== Proof.InFinal.lean ====
/- The four arrays the projection call leaves, at an index: query, key and value lanes and the Fourier part's input. -/
module

public import proofs.«01_k».proof.Proof.HostIn
public import proofs.«01_k».proof.Proof.InBlock

@[expose] public section

set_option maxRecDepth 16384

noncomputable section

namespace Cert.LayerIdeal.InFinal

open Cert.LayerIdeal Cert.LayerIdeal.Gen Cert.Spec Cert.Angles Cert.InLanes Cert.LayerIdeal.HostIn Idealize.ShloMosaic Idealize.SL.Sem
open Idealize.ShloMosaic.TcCoe
open Idealize.ShloMosaic.Pipeline (Dat)

variable (m : (ℓ : Loc nD τ sig) → Buf (Elt Ideal) ℓ) (ρ : Dev nD → PrngReg) (c : Dev nD)

/-- The projection of the token at row `r` of the flattened batch. -/
def tokK (r : Fin 32768) : Fin 1280 → EReal :=
  proj (fun d => (m (c.tc.loc main_arg0) : FVec Ideal S16x2048x1024 .f32)
      (ix3 ⟨r.val / 2048, by have := r.isLt; omega⟩ ⟨r.val % 2048, by omega⟩ d))
    (fun d => (m (c.tc.loc main_arg1) : FVec Ideal S1024 .f32) (ix1 d))
    (fun d e => (m (c.tc.loc main_arg2) : FVec Ideal S1024x1280 .f32) (ix2 d e))

/-- The query and the key weight. -/
def gq (i : Fin 64) : EReal := (m (c.tc.loc main_arg3) : FVec Ideal S64 .f32) (ix1 i)
def gk (i : Fin 64) : EReal := (m (c.tc.loc main_arg4) : FVec Ideal S64 .f32) (ix1 i)

/-- A row's place in its sequence. -/
abbrev pos (r : Fin 32768) : Fin 2048 := ⟨r.val % 2048, Nat.mod_lt _ (by norm_num)⟩

/-- Which block each window holds at grid point `t`. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val % 4, 0]
    ∧ win0_6.index t = ![t.val % 4, 0] ∧ win0_7.index t = ![0, 0] ∧ win0_8.index t = ![0, 0] ∧ win0_9.index t = ![t.val, 0]
    ∧ win0_10.index t = ![t.val, 0] ∧ win0_11.index t = ![t.val, 0] ∧ win0_12.index t = ![t.val, 0] :=
  (by decide +kernel : ∀ t : Fin grid0.N, _)

/-- The row of the array at row `r` of block `t`. -/
abbrev row (t : Fin cfg0.N) (r : Fin 512) : Fin 32768 :=
  ⟨t.val * 512 + r.val, by have ht : t.val < 64 := t.isLt; have := r.isLt; omega⟩

theorem tables (t : Fin cfg0.N) :
    InBlock.Tables (iblk0 (V1 m ρ) c 3 t) (iblk0 (V1 m ρ) c 4 t) (iblk0 (V1 m ρ) c 5 t) (iblk0 (V1 m ρ) c 6 t)
      (iblk0 (V1 m ρ) c 7 t) (iblk0 (V1 m ρ) c 8 t) (gq m c) (gk m c) (fun r => rot (pos (row t r))) where
  q j := by
    refine Eq.trans ?_ (q1 m ρ c j)
    blk_point [iblk0, idx t]
  k j := by
    refine Eq.trans ?_ (k1 m ρ c j)
    blk_point [iblk0, idx t]
  cos r j := by
    refine Eq.trans ?_ (cos1 m ρ c (pos (row t r)) j)
    blk_point [iblk0, idx t]
  sin r j := by
    refine Eq.trans ?_ (sin1 m ρ c (pos (row t r)) j)
    blk_point [iblk0, idx t]
  bq i j := by
    refine Eq.trans ?_ (bq1 m ρ c i j)
    blk_point [iblk0, idx t]
  bk i j := by
    refine Eq.trans ?_ (bk1 m ρ c i j)
    blk_point [iblk0, idx t]

theorem tok_eq (t : Fin cfg0.N) (r : Fin 512) :
    InBlock.tok (iblk0 (V1 m ρ) c 0 t) (iblk0 (V1 m ρ) c 1 t) (iblk0 (V1 m ρ) c 2 t) r = tokK m c (row t r) := by
  unfold InBlock.tok tokK
  have e0 : (fun d => (iblk0 (V1 m ρ) c 0 t : FVec Ideal S512x1024 .f32) (ix2 r d)) = fun d =>
      (m (c.tc.loc main_arg0) : FVec Ideal S16x2048x1024 .f32)
        (ix3 ⟨(row t r).val / 2048, by have := (row t r).isLt; omega⟩ ⟨(row t r).val % 2048, by omega⟩ d) := funext fun d => by
    refine Eq.trans ?_ (x1 m ρ c (row t r) d)
    blk_point [iblk0, idx t]
  have e1 : (fun d => (iblk0 (V1 m ρ) c 1 t : FVec Ideal S1x1024 .f32) (ix2 0 d))
      = fun d => (m (c.tc.loc main_arg1) : FVec Ideal S1024 .f32) (ix1 d) := funext fun d => by
    refine Eq.trans ?_ (g1 m ρ c d)
    blk_point [iblk0, idx t]
  have e2 : (fun d e => (iblk0 (V1 m ρ) c 2 t : FVec Ideal S1024x1280 .bf16) (ix2 d e))
      = fun d e => (m (c.tc.loc main_arg2) : FVec Ideal S1024x1280 .f32) (ix2 d e) := funext fun d => funext fun e => by
    refine Eq.trans ?_ (w1 m ρ c d e)
    blk_point [iblk0, idx t]
  have H : ∀ (f f' g g' : Fin 1024 → EReal) (w w' : Fin 1024 → Fin 1280 → EReal), f = f' → g = g' → w = w'
      → proj f g w = proj f' g' w' := by
    rintro _ _ _ _ _ _ rfl rfl rfl; rfl
  exact H _ _ _ _ _ _ e0 e1 e2

/-- The four arrays. -/
def Q : FVec Ideal S32768x512 .bf16 := fun i =>
  qheadW (InBlock.head (tokK m c (i 0)) ⟨(i 1).val / 64, by have h : (i 1).val < 512 := (i 1).isLt; omega⟩)
    (gq m c) (rot (pos (i 0))) (place (i 1))
def K : FVec Ideal S32768x512 .bf16 := fun i =>
  kheadW (InBlock.head (tokK m c (i 0)) ⟨8 + (i 1).val / 256, by have h : (i 1).val < 512 := (i 1).isLt; omega⟩)
    (gk m c) (rot (pos (i 0))) (place (i 1))
def Vv : FVec Ideal S32768x512 .bf16 := fun i =>
  InBlock.head (tokK m c (i 0)) ⟨10 + (i 1).val / 256, by have h : (i 1).val < 512 := (i 1).isLt; omega⟩ (place (i 1))
def U : FVec Ideal S32768x512 .bf16 := fun i =>
  tokK m c (i 0) ⟨768 + (i 1).val, by have h : (i 1).val < 512 := (i 1).isLt; omega⟩

theorem point_q (t : Fin cfg0.N) (r : Fin 512) (j : Fin 512) :
    out0_9 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (iblk0 (V1 m ρ) c 7 t) (iblk0 (V1 m ρ) c 8 t) (ix2 r j)
      = Q m c (ix2 (row t r) j) := by
  refine (InBlock.out_q _ _ _ (tables m ρ c t) r j).trans ?_
  rw [tok_eq]
  rfl

theorem out_q : (W2 m ρ c (Proc.devRef .tc main_v56_0) : FVec Ideal S32768x512 .bf16) = Q m c := by
  refine (W2_arr m ρ c 9).trans ?_
  refine (dat0 (V1 m ρ) c).arrAt_eq_of_covers 9 _ (by decide +kernel) fun t _ y => ?_
  blk_simp
  rw [after0_9]
  idx_vars y
  refine (point_q m ρ c t _ _).trans ?_
  blk_ext [idx t]

theorem point_k (t : Fin cfg0.N) (r : Fin 512) (j : Fin 512) :
    out0_10 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (iblk0 (V1 m ρ) c 7 t) (iblk0 (V1 m ρ) c 8 t) (ix2 r j)
      = K m c (ix2 (row t r) j) := by
  refine (InBlock.out_k _ _ _ (tables m ρ c t) r j).trans ?_
  rw [tok_eq]
  rfl

theorem out_k : (W2 m ρ c (Proc.devRef .tc main_v56_1) : FVec Ideal S32768x512 .bf16) = K m c := by
  refine (W2_arr m ρ c 10).trans ?_
  refine (dat0 (V1 m ρ) c).arrAt_eq_of_covers 10 _ (by decide +kernel) fun t _ y => ?_
  blk_simp
  rw [after0_10]
  idx_vars y
  refine (point_k m ρ c t _ _).trans ?_
  blk_ext [idx t]

theorem point_v (t : Fin cfg0.N) (r : Fin 512) (j : Fin 512) :
    out0_11 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (iblk0 (V1 m ρ) c 7 t) (iblk0 (V1 m ρ) c 8 t) (ix2 r j)
      = Vv m c (ix2 (row t r) j) := by
  refine (InBlock.out_v (iblk0 (V1 m ρ) c 0 t) (iblk0 (V1 m ρ) c 1 t) (iblk0 (V1 m ρ) c 2 t) r j).trans ?_
  rw [tok_eq]
  rfl

theorem out_v : (W2 m ρ c (Proc.devRef .tc main_v56_2) : FVec Ideal S32768x512 .bf16) = Vv m c := by
  refine (W2_arr m ρ c 11).trans ?_
  refine (dat0 (V1 m ρ) c).arrAt_eq_of_covers 11 _ (by decide +kernel) fun t _ y => ?_
  blk_simp
  rw [after0_11]
  idx_vars y
  refine (point_v m ρ c t _ _).trans ?_
  blk_ext [idx t]

theorem point_u (t : Fin cfg0.N) (r : Fin 512) (j : Fin 512) :
    out0_12 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (iblk0 (V1 m ρ) c 7 t) (iblk0 (V1 m ρ) c 8 t) (ix2 r j)
      = U m c (ix2 (row t r) j) := by
  refine (InBlock.out_u (iblk0 (V1 m ρ) c 0 t) (iblk0 (V1 m ρ) c 1 t) (iblk0 (V1 m ρ) c 2 t) r j).trans ?_
  rw [tok_eq]
  rfl

theorem out_u : (W2 m ρ c (Proc.devRef .tc main_v56_3) : FVec Ideal S32768x512 .bf16) = U m c := by
  refine (W2_arr m ρ c 12).trans ?_
  refine (dat0 (V1 m ρ) c).arrAt_eq_of_covers 12 _ (by decide +kernel) fun t _ y => ?_
  blk_simp
  rw [after0_12]
  idx_vars y
  refine (point_u m ρ c t _ _).trans ?_
  blk_ext [idx t]

end Cert.LayerIdeal.InFinal

end
-- ==== Proof.AttnBlock.lean ====
/- What the attention kernel leaves in its result block: every 64-lane head of every row is the attention of that head's
   query over its group's keys and values, the division taken after the sum over the keys. -/
module

public import proofs.«01_k».proof.Proof.InLanes
public import proofs.«01_k».proof.Proof.Gen.LayerIdeal.Frame
public import Idealize.ShloMosaic.Lib.Pipeline.ValueKit

@[expose] public section

set_option maxRecDepth 16384

noncomputable section

namespace Cert.LayerIdeal.AttnBlock

open Cert.LayerIdeal Cert.LayerIdeal.Gen Cert.Spec Cert.InLanes Idealize.ShloMosaic Idealize.SL.Sem

/-! ## The masks: mask `h` is set on the lanes of head `h` -/

/-- Set on the lanes of head `h`. -/
def isHead (h : ℕ) (c : Fin 256) : BitVec 1 := if c.val / 64 = h then 1#1 else 0#1

theorem mask0 : ∀ c : Fin 256, k1_pay6 (ix2 0 c : S1x256.Idx) = isHead 0 c := by decide +kernel
theorem mask1 : ∀ c : Fin 256, k1_pay9 (iota .tc S1x256 32 [1] iota_S1x256_d1_w32) (ix2 0 c : S1x256.Idx) = isHead 1 c := by decide +kernel
theorem mask2 : ∀ c : Fin 256, k1_pay12 (iota .tc S1x256 32 [1] iota_S1x256_d1_w32) (ix2 0 c : S1x256.Idx) = isHead 2 c := by decide +kernel
theorem mask3 : ∀ c : Fin 256, k1_pay15 (iota .tc S1x256 32 [1] iota_S1x256_d1_w32) (ix2 0 c : S1x256.Idx) = isHead 3 c := by decide +kernel

/-! ## Sums over a row's lanes, one head kept -/

theorem kept (h : ℕ) (c : Fin 256) :
    FloatOps.sitofp (F := Ideal) .f32 (BitVec.setWidth 32 (isHead h c)) = if c.val / 64 = h then (1 : EReal) else 0 := by
  unfold isHead
  split
  · show ((((BitVec.setWidth 32 1#1).toInt : ℤ) : ℝ) : EReal) = 1
    rw [show (BitVec.setWidth 32 1#1).toInt = 1 from by decide]; norm_num
  · show ((((BitVec.setWidth 32 0#1).toInt : ℤ) : ℝ) : EReal) = 0
    rw [show (BitVec.setWidth 32 0#1).toInt = 0 from by decide]; norm_num

/-- Masking the queries keeps the 64 products of head `h`. -/
theorem score_eq (q k : Fin 256 → EReal) (h : ℕ) (hh : h < 4) :
    ∑ c, q c * FloatOps.sitofp (F := Ideal) .f32 (BitVec.setWidth 32 (isHead h c)) * k c
      = score (fun d => q ⟨64 * h + d.val, by have := d.isLt; omega⟩) (fun d => k ⟨64 * h + d.val, by have := d.isLt; omega⟩) := by
  have e := InLanes.head_sum 4 (fun c : Fin 256 => q c * k c) 1 h hh
  refine (Finset.sum_congr rfl fun c _ => ?_).trans (e.trans (Finset.sum_congr rfl fun d _ => mul_one _))
  rw [kept]
  exact mul_right_comm _ _ _

/-- The least number from which the greatest score is taken. -/
theorem least : Ideal.ofBits .f32 0xFF800000#32 = (⊥ : EReal) := by simp [Ideal.ofBits, Ideal.ieee]

/-! ## The block -/

section
variable (x0 : FVec Ideal S256x256 .bf16) (x1 x2 : FVec Ideal S2048x256 .bf16)

/-- Head `h` of query row `r`; of the key (or value) row `x`. -/
def hq (r : Fin 256) (h : ℕ) (hh : h < 4) (d : Fin 64) : EReal := x0 (ix2 r ⟨64 * h + d.val, by have := d.isLt; omega⟩)
def hk (h : ℕ) (hh : h < 4) (x : Fin 2048) (d : Fin 64) : EReal := x1 (ix2 x ⟨64 * h + d.val, by have := d.isLt; omega⟩)

theorem q_eq : k1_pay18 (F := Ideal) x0 x1 x2 = x0 := by
  unfold k1_pay18
  frame_out
  funext i
  pointwise [k1_pay2]

theorem k_eq : k1_pay19 (F := Ideal) x0 x1 x2 = x1 := by
  unfold k1_pay19
  frame_out
  funext i
  pointwise [k1_pay3]

theorem v_eq : k1_pay20 (F := Ideal) x0 x1 x2 = x2 := by
  unfold k1_pay20
  frame_out
  funext i
  pointwise [k1_pay4]

theorem select_eq (h : ℕ) (c : Fin 256) (a b : EReal) : Scalar.select (isHead h c) a b = if c.val / 64 = h then a else b := by
  unfold isHead
  split <;> rfl

theorem out_at (r c : Fin 256) :
    out1_3 (F := Ideal) x0 x1 x2 (ix2 r c)
      = attendW (hq x0 r (c.val / 64) (by omega)) (hk x1 (c.val / 64) (by omega)) (hk x2 (c.val / 64) (by omega)) (place c) := by
  unfold out1_3
  rw [q_eq, k_eq, v_eq]
  frame_out
  have m1 : ∀ c : Fin 256, k1_pay9 (k1_pay17 (F := Ideal) x0 x1 x2) (ix2 0 c : S1x256.Idx) = isHead 1 c := mask1
  have m2 : ∀ c : Fin 256, k1_pay12 (k1_pay17 (F := Ideal) x0 x1 x2) (ix2 0 c : S1x256.Idx) = isHead 2 c := mask2
  have m3 : ∀ c : Fin 256, k1_pay15 (k1_pay17 (F := Ideal) x0 x1 x2) (ix2 0 c : S1x256.Idx) = isHead 3 c := mask3
  pointwise [k1_pay1, k1_pay14, k1_pay11, k1_pay8, k1_pay5, k1_pay7, k1_pay10, k1_pay13, k1_pay16, k1_pay2, k1_pay3]
  simp only [mask0, m1, m2, m3, least, select_eq]
  simp only [score_eq _ _ 0 (by norm_num), score_eq _ _ 1 (by norm_num), score_eq _ _ 2 (by norm_num), score_eq _ _ 3 (by norm_num)]
  have hc := c.isLt
  suffices H : ∀ (h : ℕ) (hh : h < 4), c.val / 64 = h → _ = attendW (hq x0 r h hh) (hk x1 h hh) (hk x2 h hh) (place c) from
    H _ (by omega) rfl
  intro h hh e
  have ev : ∀ x, hk x2 h hh x (place c) = x2 (ix2 x c) := fun x =>
    congrArg (fun c => x2 (ix2 x c)) (Fin.ext (by simp; omega))
  unfold attendW
  simp only [ev, e]
  obtain rfl | rfl | rfl | rfl : h = 0 ∨ h = 1 ∨ h = 2 ∨ h = 3 := by omega
  all_goals
    simp only [weight, top, if_true, if_false, add_zero, zero_add, Nat.reduceEqDiff, OfNat.ofNat_ne_zero,
      OfNat.ofNat_ne_one, OfNat.zero_ne_ofNat, OfNat.one_ne_ofNat, zero_ne_one, one_ne_zero]
    rfl
end

end Cert.LayerIdeal.AttnBlock

end
-- ==== Proof.AttnFinal.lean ====
/- The array the attention call leaves, at an index. -/
module

public import proofs.«01_k».proof.Proof.InFinal
public import proofs.«01_k».proof.Proof.AttnBlock

@[expose] public section

set_option maxRecDepth 16384

noncomputable section

namespace Cert.LayerIdeal.AttnFinal

open Cert.LayerIdeal Cert.LayerIdeal.Gen Cert.Spec Cert.Angles Cert.InLanes Cert.LayerIdeal.InFinal Idealize.ShloMosaic Idealize.SL.Sem
open Idealize.ShloMosaic.TcCoe
open Idealize.ShloMosaic.Pipeline (Dat)

variable (m : (ℓ : Loc nD τ sig) → Buf (Elt Ideal) ℓ) (ρ : Dev nD → PrngReg) (c : Dev nD)

/-- Which block each window holds at grid point `t`: point `t` is query block `t % 8` of group `t / 8 % 2` of batch entry
    `t / 16`. -/
theorem idx : ∀ t : Fin cfg1.N, win1_0.index t = ![t.val / 16 * 8 + t.val % 8, t.val / 8 % 2]
    ∧ win1_1.index t = ![t.val / 16, t.val / 8 % 2] ∧ win1_2.index t = ![t.val / 16, t.val / 8 % 2]
    ∧ win1_3.index t = ![t.val / 16 * 8 + t.val % 8, t.val / 8 % 2] :=
  (by decide +kernel : ∀ t : Fin grid1.N, _)

/-- Attention of the query at row `r`, head `h` of eight, over the keys of its own sequence and the lanes of head `h`. -/
def one (q k v : FVec Ideal S32768x512 .bf16) (r : Fin 32768) (h : Fin 8) (d : Fin 64) : EReal :=
  attendW (fun i => q (ix2 r ⟨64 * h.val + i.val, by have := h.isLt; have := i.isLt; omega⟩))
    (fun y i => k (ix2 ⟨r.val / 2048 * 2048 + y.val, by have := r.isLt; have := y.isLt; omega⟩
      ⟨64 * h.val + i.val, by have := h.isLt; have := i.isLt; omega⟩))
    (fun y i => v (ix2 ⟨r.val / 2048 * 2048 + y.val, by have := r.isLt; have := y.isLt; omega⟩
      ⟨64 * h.val + i.val, by have := h.isLt; have := i.isLt; omega⟩)) d

/-- The array. -/
def A : FVec Ideal S32768x512 .bf16 := fun i =>
  one (Q m c) (K m c) (Vv m c) (i 0) ⟨(i 1).val / 64, by have h : (i 1).val < 512 := (i 1).isLt; omega⟩ (place (i 1))

theorem point (t : Fin cfg1.N) (r : Fin 256) (j : Fin 256) :
    out1_3 (F := Ideal) (iblk1 (V2 m ρ) c 0 t) (iblk1 (V2 m ρ) c 1 t) (iblk1 (V2 m ρ) c 2 t) (ix2 r j)
      = A m c (ix2 (⟨(t.val / 16 * 8 + t.val % 8) * 256 + r.val, by have ht : t.val < 256 := t.isLt; have := r.isLt; omega⟩ : Fin 32768)
          (⟨t.val / 8 % 2 * 256 + j.val, by have := j.isLt; omega⟩ : Fin 512)) := by
  have ht : t.val < 256 := t.isLt
  have hr := r.isLt
  have hj := j.isLt
  refine (AttnBlock.out_at _ _ _ r j).trans ?_
  have H : ∀ (q q' : Fin 64 → EReal) (k k' v v' : Fin 2048 → Fin 64 → EReal) (d d' : Fin 64), q = q' → k = k' → v = v' → d = d'
      → attendW q k v d = attendW q' k' v' d' := by
    rintro _ _ _ _ _ _ _ _ rfl rfl rfl rfl; rfl
  unfold A one
  beta_reduce
  refine H _ _ _ _ _ _ _ _ (funext fun i => ?_) (funext fun y => funext fun i => ?_) (funext fun y => funext fun i => ?_) ?_
  · rw [← out_q m ρ c]
    have hi := i.isLt
    unfold AttnBlock.hq
    blk_point [iblk1, idx t]
  · rw [← out_k m ρ c]
    have hi := i.isLt
    unfold AttnBlock.hk
    blk_point [iblk1, idx t]
  · rw [← out_v m ρ c]
    have hi := i.isLt
    unfold AttnBlock.hk
    blk_point [iblk1, idx t]
  · exact Fin.ext (by show j.val % 64 = (t.val / 8 % 2 * 256 + j.val) % 64; omega)

theorem out : (W3 m ρ c (Proc.devRef .tc main_v57) : FVec Ideal S32768x512 .bf16) = A m c := by
  refine (W3_arr m ρ c 3).trans ?_
  refine (dat1 (V2 m ρ) c).arrAt_eq_of_covers 3 _ (by decide +kernel) fun t _ y => ?_
  blk_simp
  rw [after1_3]
  idx_vars y
  refine (point m ρ c t _ _).trans ?_
  blk_ext [idx t]

end Cert.LayerIdeal.AttnFinal

end
-- ==== Proof.HostFour.lean ====
/- What the host leaves before the Fourier call, at an index: the two scaled tables over tokens, the two block-diagonal
   tables over channels, and the head weights on the diagonal blocks. -/
module

public import proofs.«01_k».proof.Proof.HostIn

@[expose] public section

set_option maxRecDepth 16384

noncomputable section

namespace Cert.LayerIdeal.HostFour

open Cert.LayerIdeal Cert.LayerIdeal.Gen Cert.Spec Cert.Angles Cert.InLanes Cert.LayerIdeal.HostIn Idealize.ShloMosaic Idealize.SL.Sem
open Idealize.ShloMosaic.TcCoe

variable (m : (ℓ : Loc nD τ sig) → Buf (Elt Ideal) ℓ) (ρ : Dev nD → PrngReg) (c : Dev nD)

theorem cs4 (s t : Fin 2048) :
    (W4 m ρ c (Proc.devRef .tc main_v68) : FVec Ideal S2048x2048 .f32) (ix2 s t)
      = Ideal.cos (overTokens s t) * Ideal.ofBits .f32 0x3CB504F3#32 := by
  after_results_simp
  pointwise
  rfl

theorem nss4 (s t : Fin 2048) :
    (W4 m ρ c (Proc.devRef .tc main_v95) : FVec Ideal S2048x2048 .f32) (ix2 s t)
      = -(Ideal.sin (overTokens s t) * Ideal.ofBits .f32 0x3CB504F3#32) := by
  after_results_simp
  pointwise
  rfl

theorem cs8 (s t : Fin 2048) :
    (W8 m ρ c (Proc.devRef .tc main_v111) : FVec Ideal S2048x2048 .bf16) (ix2 s t)
      = Ideal.cos (overTokens s t) * Ideal.ofBits .f32 0x3CB504F3#32 := by
  refine (?_ : _ = (W4 m ρ c (Proc.devRef .tc main_v68) : FVec Ideal S2048x2048 .f32) (ix2 s t)).trans (cs4 m ρ c s t)
  rw [← W5_of m ρ c main_v68 (by decide), ← W6_of m ρ c main_v68 (by decide), ← W7_of m ρ c main_v68 (by decide)]
  after_results_simp
  pointwise

theorem nss8 (s t : Fin 2048) :
    (W8 m ρ c (Proc.devRef .tc main_v112) : FVec Ideal S2048x2048 .bf16) (ix2 s t)
      = -(Ideal.sin (overTokens s t) * Ideal.ofBits .f32 0x3CB504F3#32) := by
  refine (?_ : _ = (W4 m ρ c (Proc.devRef .tc main_v95) : FVec Ideal S2048x2048 .f32) (ix2 s t)).trans (nss4 m ρ c s t)
  rw [← W5_of m ρ c main_v95 (by decide), ← W6_of m ρ c main_v95 (by decide), ← W7_of m ρ c main_v95 (by decide)]
  after_results_simp
  pointwise

theorem rem256 : ∀ s : Fin 256, IntOp.remsi .host (BitVec.ofNat 32 s.val) 64#32 = BitVec.ofNat 32 (s.val % 64) := by
  decide +kernel

theorem c8 (i j : Fin 256) :
    (W8 m ρ c (Proc.devRef .tc main_v113) : FVec Ideal S256x256 .bf16) (ix2 i j)
      = if i.val / 64 = j.val / 64 then Ideal.cos (overLanes (place i) (place j)) * Ideal.ofBits .f32 0x3E000000#32 else 0 := by
  have e : W8 m ρ c (Proc.devRef .tc main_v113)
      = (truncf .bf16 (W5 m ρ c (Proc.devRef .tc main_v96) : FVec Ideal S256x256 .f32) bitsLt_bf16_f32
        : FVec Ideal S256x256 .bf16) := by
    rw [← W6_of m ρ c main_v96 (by decide), ← W7_of m ρ c main_v96 (by decide)]
    after_results_simp
  rw [e]
  after_results_simp
  show select (cmpi CmpIPredicate.eq
              (Host.divsi (iotaInDim S256x256 32 0) (broadcastInDim S256x256 ![] bcast_S_S256x256 (constantI S_ 32 64#32)))
              (Host.divsi (iotaInDim S256x256 32 1) (broadcastInDim S256x256 ![] bcast_S_S256x256 (constantI S_ 32 64#32))))
      (mulf (Host.cos (mulf (broadcastInDim S256x256 ![] bcast_S_S256x256 (constant (F := Ideal) S_ .f32 0x3DC90FDB#32))
          (sitofp .f32 (Host.remsi (muli
              (Host.remsi (iotaInDim S256x256 32 0) (broadcastInDim S256x256 ![] bcast_S_S256x256 (constantI S_ 32 64#32)))
              (Host.remsi (iotaInDim S256x256 32 1) (broadcastInDim S256x256 ![] bcast_S_S256x256 (constantI S_ 32 64#32))))
            (broadcastInDim S256x256 ![] bcast_S_S256x256 (constantI S_ 32 64#32))))))
        (broadcastInDim S256x256 ![] bcast_S_S256x256 (constant (F := Ideal) S_ .f32 0x3E000000#32)))
      (broadcastInDim S256x256 ![] bcast_S_S256x256 (constant (F := Ideal) S_ .f32 0x00000000#32)) (ix2 i j) = _
  pointwise
  rw [rem256, rem256]
  exact if_congr (block_test i j) rfl rfl

theorem s8 (i j : Fin 256) :
    (W8 m ρ c (Proc.devRef .tc main_v114) : FVec Ideal S256x256 .bf16) (ix2 i j)
      = if i.val / 64 = j.val / 64 then Ideal.sin (overLanes (place i) (place j)) * Ideal.ofBits .f32 0x3E000000#32 else 0 := by
  have e : W8 m ρ c (Proc.devRef .tc main_v114)
      = (truncf .bf16 (W7 m ρ c (Proc.devRef .tc main_v97) : FVec Ideal S256x256 .f32) bitsLt_bf16_f32
        : FVec Ideal S256x256 .bf16) := by
    after_results_simp
  rw [e]
  after_results_simp
  show select (cmpi CmpIPredicate.eq
              (Host.divsi (iotaInDim S256x256 32 0) (broadcastInDim S256x256 ![] bcast_S_S256x256 (constantI S_ 32 64#32)))
              (Host.divsi (iotaInDim S256x256 32 1) (broadcastInDim S256x256 ![] bcast_S_S256x256 (constantI S_ 32 64#32))))
      (mulf (Host.sin (mulf (broadcastInDim S256x256 ![] bcast_S_S256x256 (constant (F := Ideal) S_ .f32 0x3DC90FDB#32))
          (sitofp .f32 (Host.remsi (muli
              (Host.remsi (iotaInDim S256x256 32 0) (broadcastInDim S256x256 ![] bcast_S_S256x256 (constantI S_ 32 64#32)))
              (Host.remsi (iotaInDim S256x256 32 1) (broadcastInDim S256x256 ![] bcast_S_S256x256 (constantI S_ 32 64#32))))
            (broadcastInDim S256x256 ![] bcast_S_S256x256 (constantI S_ 32 64#32))))))
        (broadcastInDim S256x256 ![] bcast_S_S256x256 (constant (F := Ideal) S_ .f32 0x3E000000#32)))
      (broadcastInDim S256x256 ![] bcast_S_S256x256 (constant (F := Ideal) S_ .f32 0x00000000#32)) (ix2 i j) = _
  pointwise
  rw [rem256, rem256]
  exact if_congr (block_test i j) rfl rfl

end Cert.LayerIdeal.HostFour

end
-- ==== Proof.HostHeads.lean ====
/- The head weights of the Fourier part as the host lays them out: on the diagonal blocks of a block-diagonal table. -/
module

public import proofs.«01_k».proof.Proof.HostIn

@[expose] public section

set_option maxRecDepth 16384

noncomputable section

namespace Cert.LayerIdeal.HostHeads

open Cert.LayerIdeal Cert.LayerIdeal.Gen Cert.Spec Cert.Angles Cert.InLanes Cert.LayerIdeal.HostIn Idealize.ShloMosaic Idealize.SL.Sem
open Idealize.ShloMosaic.TcCoe

variable (m : (ℓ : Loc nD τ sig) → Buf (Elt Ideal) ℓ) (ρ : Dev nD → PrngReg) (c : Dev nD)

theorem one_word : ∀ a b : Fin 4, IntOp.cmpi .eq (IntOp.addi (BitVec.ofNat 32 a.val) 0#32) (BitVec.ofNat 32 b.val)
    = if a = b then 1#1 else 0#1 := by
  decide +kernel

theorem bit_one : FloatOps.uitofp (F := Ideal) .f32 (1#1 : BitVec 1) = (1 : EReal) := by
  show (((1#1 : BitVec 1).toNat : ℝ) : EReal) = 1
  simp
theorem bit_zero : FloatOps.uitofp (F := Ideal) .f32 (0#1 : BitVec 1) = (0 : EReal) := by
  show (((0#1 : BitVec 1).toNat : ℝ) : EReal) = 0
  simp

theorem wbd_raw (a : Fin 2) (i j : Fin 256) :
    (W8 m ρ c (Proc.devRef .tc main_v115) : FVec Ideal S2x256x256 .bf16) (ix3 a i j)
      = HMul.hMul (α := EReal) (β := EReal) (γ := EReal)
          ((W3 m ρ c (Proc.devRef .tc main_arg5) : FVec Ideal S8x64x64 .f32)
            (ix3 ⟨a.val * 4 + i.val / 64, by have := a.isLt; have := i.isLt; omega⟩ (place i) (place j)))
          (FloatOps.uitofp (F := Ideal) .f32
            (IntOp.cmpi .eq (IntOp.addi (BitVec.ofNat 32 (i.val / 64)) 0#32) (BitVec.ofNat 32 (j.val / 64)))) := by
  after_results_simp
  pointwise

theorem wbd8 (a : Fin 2) (i j : Fin 256) :
    (W8 m ρ c (Proc.devRef .tc main_v115) : FVec Ideal S2x256x256 .bf16) (ix3 a i j)
      = if i.val / 64 = j.val / 64 then
          (m (c.tc.loc main_arg5) : FVec Ideal S8x64x64 .f32) (ix3 ⟨a.val * 4 + i.val / 64, by have := a.isLt; have := i.isLt; omega⟩
            (place i) (place j))
        else (0 : EReal) := by
  have hi := i.isLt
  have hj := j.isLt
  have ha : W3 m ρ c (Proc.devRef .tc main_arg5) = m (c.tc.loc main_arg5) := W3_args m ρ c main_arg5 (by decide)
  rw [wbd_raw, ha]
  have h := one_word ⟨i.val / 64, by omega⟩ ⟨j.val / 64, by omega⟩
  rw [show IntOp.cmpi .eq (IntOp.addi (BitVec.ofNat 32 (i.val / 64)) 0#32) (BitVec.ofNat 32 (j.val / 64)) = _ from h]
  by_cases e : i.val / 64 = j.val / 64
  · rw [if_pos e, if_pos (Fin.ext e), bit_one, mul_one]
  · rw [if_neg e, if_neg (fun h => e (congrArg Fin.val h)), bit_zero, mul_zero]

end Cert.LayerIdeal.HostHeads

end
-- ==== Proof.FourBlock.lean ====
/- What the Fourier kernel leaves in its result block: every group of 64 channels at every position is the group's
   transform through its map, the channels taken first. -/
module

public import proofs.«01_k».proof.Proof.InLanes
public import proofs.«01_k».proof.Proof.Gen.LayerIdeal.Frame
public import Idealize.ShloMosaic.Lib.Pipeline.ValueKit

@[expose] public section

set_option maxRecDepth 16384

noncomputable section

namespace Cert.LayerIdeal.FourBlock

open Cert.LayerIdeal Cert.LayerIdeal.Gen Cert.Spec Cert.InLanes Idealize.ShloMosaic Idealize.SL.Sem

section
variable (x0 : FVec Ideal S2048x512 .bf16) (x1 x2 : FVec Ideal S2048x2048 .bf16) (x3 x4 : FVec Ideal S256x256 .bf16)
  (x5 : FVec Ideal S2x256x256 .bf16)

/-- Column `j` of `u` through a channel table `B` and the maps: the half of 256 columns that holds `j`. -/
def thru (B : FVec Ideal S256x256 .bf16) (t : Fin 2048) (j : Fin 512) : EReal :=
  ∑ x : Fin 256, x0 (ix2 t ⟨256 * (j.val / 256) + x.val, by omega⟩)
    * ∑ y : Fin 256, B (ix2 x y) * x5 (ix3 ⟨j.val / 256, by omega⟩ y ⟨j.val % 256, by omega⟩)

theorem cos_at (t : Fin 2048) (j : Fin 512) :
    k2_pay13 (F := Ideal) x0 x1 x2 x3 x4 x5 (ix2 t j) = thru x0 x5 x3 t j := by
  unfold thru
  pointwise [k2_pay13, k2_pay7, k2_pay2, k2_pay3, k2_pay4, k2_pay5, k2_pay6]
  by_cases h : j.val < 256
  · rw [dif_pos h]
    have e : j.val / 256 = 0 := by omega
    have e' : j.val % 256 = j.val := by omega
    simp only [e, e', Nat.mul_zero, Nat.zero_add]
    rfl
  · rw [dif_neg h]
    have e : j.val / 256 = 1 := by omega
    have e' : j.val % 256 = j.val - 256 := by omega
    simp only [e, e', Nat.mul_one]
    rfl

theorem sin_at (t : Fin 2048) (j : Fin 512) :
    k2_pay14 (F := Ideal) x0 x1 x2 x3 x4 x5 (ix2 t j) = thru x0 x5 x4 t j := by
  unfold thru
  pointwise [k2_pay14, k2_pay8, k2_pay2, k2_pay3, k2_pay4, k2_pay5, k2_pay6]
  by_cases h : j.val < 256
  · rw [dif_pos h]
    have e : j.val / 256 = 0 := by omega
    have e' : j.val % 256 = j.val := by omega
    simp only [e, e', Nat.mul_zero, Nat.zero_add]
    rfl
  · rw [dif_neg h]
    have e : j.val / 256 = 1 := by omega
    have e' : j.val % 256 = j.val - 256 := by omega
    simp only [e, e', Nat.mul_one]
    rfl

theorem out_at (r : Fin 2048) (j : Fin 512) :
    out2_6 (F := Ideal) x0 x1 x2 x3 x4 x5 (ix2 r j)
      = (∑ t, x1 (ix2 r t) * thru x0 x5 x3 t j) + ∑ t, x2 (ix2 r t) * thru x0 x5 x4 t j := by
  have ec := cos_at x0 x1 x2 x3 x4 x5
  have es := sin_at x0 x1 x2 x3 x4 x5
  unfold out2_6
  canon_tiles i h
  all_goals
    idx_vars i
    obtain rfl : j = i1 := Fin.ext h1
    replace h0 : r.val = _ := h0
  · pointwise [k2_pay1, k2_pay12, ec, es]
    have er : (⟨1536 + i0.val, by clear h0; omega⟩ : Fin 2048) = r := Fin.ext h0.symm
    subst er
    rfl
  · pointwise [k2_pay11, ec, es]
    have er : (⟨1024 + i0.val, by clear h0; omega⟩ : Fin 2048) = r := Fin.ext h0.symm
    subst er
    rfl
  · pointwise [k2_pay10, ec, es]
    have er : (⟨512 + i0.val, by clear h0; omega⟩ : Fin 2048) = r := Fin.ext h0.symm
    subst er
    rfl
  · pointwise [k2_pay9, ec, es]
    have er : (⟨i0.val, by clear h0; omega⟩ : Fin 2048) = r := Fin.ext h0.symm
    subst er
    rfl
end

end Cert.LayerIdeal.FourBlock

end
-- ==== Proof.FourFinal.lean ====
/- The array the Fourier call leaves, at an index. -/
module

public import proofs.«01_k».proof.Proof.InFinal
public import proofs.«01_k».proof.Proof.HostFour
public import proofs.«01_k».proof.Proof.HostHeads
public import proofs.«01_k».proof.Proof.FourBlock

@[expose] public section

set_option maxRecDepth 16384

noncomputable section

namespace Cert.LayerIdeal.FourFinal

open Cert.LayerIdeal Cert.LayerIdeal.Gen Cert.Spec Cert.Angles Cert.InLanes Cert.LayerIdeal.InFinal Cert.LayerIdeal.HostFour
  Cert.LayerIdeal.HostHeads Idealize.ShloMosaic Idealize.SL.Sem
open Idealize.ShloMosaic.TcCoe
open Idealize.ShloMosaic.Pipeline (Dat)

/-- A sum over four blocks of 64 of terms that vanish off one block. -/
theorem block_sum (b : ℕ) (hb : b < 4) (F : Fin 256 → EReal) (h0 : ∀ k : Fin 256, k.val / 64 ≠ b → F k = 0) :
    ∑ k, F k = ∑ i : Fin 64, F ⟨64 * b + i.val, by have := i.isLt; omega⟩ := by
  have e : ∀ k : Fin (4 * 64), F k = F k * (if k.val / 64 = b then 1 else 0) := by
    intro k
    by_cases h : k.val / 64 = b
    · rw [if_pos h, mul_one]
    · rw [if_neg h, mul_zero]; exact h0 k h
  refine (Finset.sum_congr (rfl : (Finset.univ : Finset (Fin (4 * 64))) = Finset.univ) fun k _ => e k).trans ?_
  refine (head_sum 4 F 1 b hb).trans (Finset.sum_congr rfl fun i _ => mul_one _)

variable (m : (ℓ : Loc nD τ sig) → Buf (Elt Ideal) ℓ) (ρ : Dev nD → PrngReg) (c : Dev nD)

theorem idx : ∀ t : Fin cfg2.N, win2_0.index t = ![t.val, 0] ∧ win2_1.index t = ![0, 0] ∧ win2_2.index t = ![0, 0]
    ∧ win2_3.index t = ![0, 0] ∧ win2_4.index t = ![0, 0] ∧ win2_5.index t = ![0, 0, 0] ∧ win2_6.index t = ![t.val, 0] :=
  (by decide +kernel : ∀ t : Fin grid2.N, _)

/-- The weight of group `g`. -/
def wf (g : Fin 8) (i j : Fin 64) : EReal := (m (c.tc.loc main_arg5) : FVec Ideal S8x64x64 .f32) (ix3 g i j)

/-- The Fourier part at row `r`, group `g`, place `d`. -/
def one (u : FVec Ideal S32768x512 .bf16) (r : Fin 32768) (g : Fin 8) (d : Fin 64) : EReal :=
  mixW (fun t => Ideal.cos (overTokens (pos r) t)) (fun t => Ideal.sin (overTokens (pos r) t))
    (fun t i => u (ix2 ⟨r.val / 2048 * 2048 + t.val, by have := r.isLt; have := t.isLt; omega⟩
      ⟨64 * g.val + i.val, by have := g.isLt; have := i.isLt; omega⟩))
    (fun i j => Ideal.cos (overLanes i j)) (fun i j => Ideal.sin (overLanes i j)) (fun i => wf m c g i d)

/-- The array. -/
def B : FVec Ideal S32768x512 .bf16 := fun i =>
  one m c (U m c) (i 0) ⟨(i 1).val / 64, by have h : (i 1).val < 512 := (i 1).isLt; omega⟩ (place (i 1))

/-- A block-diagonal table followed by the block-diagonal weights: only the block of the output's group is left. -/
theorem thru_eq (x0 : FVec Ideal S2048x512 .bf16) (x3 : FVec Ideal S256x256 .bf16) (x5 : FVec Ideal S2x256x256 .bf16)
    (T : Fin 64 → Fin 64 → EReal) (h3 : ∀ i j : Fin 256, x3 (ix2 i j) = if i.val / 64 = j.val / 64 then T (place i) (place j) else (0 : EReal))
    (h5 : ∀ (a : Fin 2) (i j : Fin 256), x5 (ix3 a i j) = if i.val / 64 = j.val / 64 then
      wf m c ⟨a.val * 4 + i.val / 64, by have := a.isLt; have := i.isLt; omega⟩ (place i) (place j) else (0 : EReal))
    (t : Fin 2048) (j : Fin 512) :
    FourBlock.thru x0 x5 x3 t j
      = ∑ i : Fin 64, x0 (ix2 t ⟨64 * (j.val / 64) + i.val, by have := i.isLt; have := j.isLt; omega⟩)
        * ∑ k : Fin 64, T i k * wf m c ⟨j.val / 64, by have := j.isLt; omega⟩ k (place j) := by
  have hj := j.isLt
  have hb : j.val % 256 / 64 < 4 := by omega
  unfold FourBlock.thru
  have inner : ∀ x : Fin 256, (∑ y : Fin 256, x3 (ix2 x y) * x5 (ix3 ⟨j.val / 256, by omega⟩ y ⟨j.val % 256, by omega⟩) : EReal)
      = if x.val / 64 = j.val % 256 / 64 then ∑ k : Fin 64, T (place x) k * wf m c ⟨j.val / 64, by omega⟩ k (place j) else 0 := by
    intro x
    refine (block_sum (j.val % 256 / 64) hb (fun y => x3 (ix2 x y) * x5 (ix3 ⟨j.val / 256, by omega⟩ y ⟨j.val % 256, by omega⟩)) fun k hk => ?_).trans ?_
    · rw [h5, if_neg hk, mul_zero]
    · by_cases hx : x.val / 64 = j.val % 256 / 64
      · rw [if_pos hx]
        refine Finset.sum_congr rfl fun k _ => ?_
        have hk := k.isLt
        rw [h3, h5, if_pos (by show x.val / 64 = (64 * (j.val % 256 / 64) + k.val) / 64; omega),
          if_pos (by show (64 * (j.val % 256 / 64) + k.val) / 64 = j.val % 256 / 64; omega)]
        have e1 : (place (⟨64 * (j.val % 256 / 64) + k.val, by omega⟩ : Fin 256)) = k :=
          Fin.ext (by show (64 * (j.val % 256 / 64) + k.val) % 64 = k.val; omega)
        have e2 : (⟨j.val / 256 * 4 + (64 * (j.val % 256 / 64) + k.val) / 64, by omega⟩ : Fin 8) = ⟨j.val / 64, by omega⟩ :=
          Fin.ext (by show j.val / 256 * 4 + (64 * (j.val % 256 / 64) + k.val) / 64 = j.val / 64; omega)
        have e3 : (place (⟨j.val % 256, by omega⟩ : Fin 256)) = place j := Fin.ext (by show j.val % 256 % 64 = j.val % 64; omega)
        rw [e1, e2, e3]
      · rw [if_neg hx]
        refine Finset.sum_eq_zero fun k _ => ?_
        have hk := k.isLt
        rw [h3, if_neg (by show ¬ x.val / 64 = (64 * (j.val % 256 / 64) + k.val) / 64; omega), zero_mul]
  refine (block_sum (j.val % 256 / 64) hb (fun x => x0 (ix2 t ⟨256 * (j.val / 256) + x.val, by have := x.isLt; omega⟩)
    * ∑ y : Fin 256, x3 (ix2 x y) * x5 (ix3 ⟨j.val / 256, by omega⟩ y ⟨j.val % 256, by omega⟩)) fun k hk => ?_).trans ?_
  · rw [inner, if_neg hk, mul_zero]
  · refine Finset.sum_congr rfl fun i _ => ?_
    have hi := i.isLt
    rw [inner, if_pos (by show (64 * (j.val % 256 / 64) + i.val) / 64 = j.val % 256 / 64; omega)]
    have e1 : (place (⟨64 * (j.val % 256 / 64) + i.val, by omega⟩ : Fin 256)) = i :=
      Fin.ext (by show (64 * (j.val % 256 / 64) + i.val) % 64 = i.val; omega)
    have e2 : (⟨256 * (j.val / 256) + (64 * (j.val % 256 / 64) + i.val), by omega⟩ : Fin 512) = ⟨64 * (j.val / 64) + i.val, by omega⟩ :=
      Fin.ext (by show 256 * (j.val / 256) + (64 * (j.val % 256 / 64) + i.val) = 64 * (j.val / 64) + i.val; omega)
    rw [e1, e2]

theorem keptU : (W8 m ρ c (Proc.devRef .tc main_v56_3) : FVec Ideal S32768x512 .bf16) = U m c := by
  refine Eq.trans ?_ (out_u m ρ c)
  rw [W8_of m ρ c main_v56_3 (by decide), W7_of m ρ c main_v56_3 (by decide), W6_of m ρ c main_v56_3 (by decide),
    W5_of m ρ c main_v56_3 (by decide), W4_of m ρ c main_v56_3 (by decide)]
  exact W3_of m ρ c main_v56_3 (by decide)

theorem point (t : Fin cfg2.N) (r : Fin 2048) (j : Fin 512) :
    out2_6 (F := Ideal) (iblk2 (V8 m ρ) c 0 t) (iblk2 (V8 m ρ) c 1 t) (iblk2 (V8 m ρ) c 2 t) (iblk2 (V8 m ρ) c 3 t)
        (iblk2 (V8 m ρ) c 4 t) (iblk2 (V8 m ρ) c 5 t) (ix2 r j)
      = B m c (ix2 (⟨t.val * 2048 + r.val, by have ht : t.val < 16 := t.isLt; have := r.isLt; omega⟩ : Fin 32768) j) := by
  have ht : t.val < 16 := t.isLt
  have hr := r.isLt
  have hj := j.isLt
  have h3 : ∀ i j : Fin 256, (iblk2 (V8 m ρ) c 3 t : FVec Ideal S256x256 .bf16) (ix2 i j)
      = if i.val / 64 = j.val / 64 then Ideal.cos (overLanes (place i) (place j)) * Ideal.ofBits .f32 0x3E000000#32 else 0 := fun i j => by
    refine Eq.trans ?_ (c8 m ρ c i j)
    blk_point [iblk2, idx t]
  have h4 : ∀ i j : Fin 256, (iblk2 (V8 m ρ) c 4 t : FVec Ideal S256x256 .bf16) (ix2 i j)
      = if i.val / 64 = j.val / 64 then Ideal.sin (overLanes (place i) (place j)) * Ideal.ofBits .f32 0x3E000000#32 else 0 := fun i j => by
    refine Eq.trans ?_ (s8 m ρ c i j)
    blk_point [iblk2, idx t]
  have h5 : ∀ (a : Fin 2) (i j : Fin 256), (iblk2 (V8 m ρ) c 5 t : FVec Ideal S2x256x256 .bf16) (ix3 a i j)
      = if i.val / 64 = j.val / 64 then
        wf m c ⟨a.val * 4 + i.val / 64, by have := a.isLt; have := i.isLt; omega⟩ (place i) (place j) else (0 : EReal) := fun a i j => by
    refine Eq.trans ?_ (wbd8 m ρ c a i j)
    blk_point [iblk2, idx t]
  have h1 : ∀ s : Fin 2048, (iblk2 (V8 m ρ) c 1 t : FVec Ideal S2048x2048 .bf16) (ix2 r s)
      = Ideal.cos (overTokens r s) * Ideal.ofBits .f32 0x3CB504F3#32 := fun s => by
    refine Eq.trans ?_ (cs8 m ρ c r s)
    blk_point [iblk2, idx t]
  have h2 : ∀ s : Fin 2048, (iblk2 (V8 m ρ) c 2 t : FVec Ideal S2048x2048 .bf16) (ix2 r s)
      = -(Ideal.sin (overTokens r s) * Ideal.ofBits .f32 0x3CB504F3#32) := fun s => by
    refine Eq.trans ?_ (nss8 m ρ c r s)
    blk_point [iblk2, idx t]
  have h0 : ∀ (s : Fin 2048) (k : Fin 512), (iblk2 (V8 m ρ) c 0 t : FVec Ideal S2048x512 .bf16) (ix2 s k)
      = U m c (ix2 (⟨t.val * 2048 + s.val, by have := s.isLt; omega⟩ : Fin 32768) k) := fun s k => by
    rw [← keptU m ρ c]
    blk_point [iblk2, idx t]
  have k3 := fun s => thru_eq m c (iblk2 (V8 m ρ) c 0 t) (iblk2 (V8 m ρ) c 3 t) (iblk2 (V8 m ρ) c 5 t)
    (fun i j => Ideal.cos (overLanes i j) * Ideal.ofBits .f32 0x3E000000#32) h3 h5 s j
  have k4 := fun s => thru_eq m c (iblk2 (V8 m ρ) c 0 t) (iblk2 (V8 m ρ) c 4 t) (iblk2 (V8 m ρ) c 5 t)
    (fun i j => Ideal.sin (overLanes i j) * Ideal.ofBits .f32 0x3E000000#32) h4 h5 s j
  have ep : pos (⟨t.val * 2048 + r.val, by omega⟩ : Fin 32768) = r :=
    Fin.ext (by show (t.val * 2048 + r.val) % 2048 = r.val; omega)
  have er : ∀ s : Fin 2048, (⟨(t.val * 2048 + r.val) / 2048 * 2048 + s.val, by have := s.isLt; omega⟩ : Fin 32768)
      = ⟨t.val * 2048 + s.val, by have := s.isLt; omega⟩ := fun s =>
    Fin.ext (by show (t.val * 2048 + r.val) / 2048 * 2048 + s.val = t.val * 2048 + s.val; omega)
  refine (FourBlock.out_at _ _ _ _ _ _ r j).trans ?_
  simp only [h1, h2, k3, k4, h0]
  show _ = one m c (U m c) (⟨t.val * 2048 + r.val, by omega⟩ : Fin 32768) ⟨j.val / 64, by omega⟩ (place j)
  unfold one mixW
  simp only [ep, er]

theorem out : (W9 m ρ c (Proc.devRef .tc main_v116) : FVec Ideal S32768x512 .bf16) = B m c := by
  refine (W9_arr m ρ c 6).trans ?_
  refine (dat2 (V8 m ρ) c).arrAt_eq_of_covers 6 _ (by decide +kernel) fun t _ y => ?_
  blk_simp
  rw [after2_6]
  idx_vars y
  refine (point m ρ c t _ _).trans ?_
  blk_ext [idx t]

end Cert.LayerIdeal.FourFinal

end
-- ==== Proof.HostLast.lean ====
/- What the host leaves before the output call, at an index, and the result it regroups at the end. -/
module

public import proofs.«01_k».proof.Proof.HostIn

@[expose] public section

set_option maxRecDepth 16384

noncomputable section

namespace Cert.LayerIdeal.HostLast

open Cert.LayerIdeal Cert.LayerIdeal.Gen Cert.Spec Cert.Angles Cert.InLanes Cert.LayerIdeal.HostIn Idealize.ShloMosaic Idealize.SL.Sem
open Idealize.ShloMosaic.TcCoe

variable (m : (ℓ : Loc nD τ sig) → Buf (Elt Ideal) ℓ) (ρ : Dev nD → PrngReg) (c : Dev nD)

theorem wo10 (k j : Fin 1024) :
    (W10 m ρ c (Proc.devRef .tc main_v117) : FVec Ideal S1024x1024 .bf16) (ix2 k j)
      = (m (c.tc.loc main_arg6) : FVec Ideal S1024x1024 .f32) (ix2 k j) := by
  refine (?_ : _ = (W9 m ρ c (Proc.devRef .tc main_arg6) : FVec Ideal S1024x1024 .f32) (ix2 k j)).trans
    (congrFun (W9_args m ρ c main_arg6 (by decide)) _)
  after_results_simp
  pointwise

theorem g210 (k : Fin 1024) :
    (W10 m ρ c (Proc.devRef .tc main_v118) : FVec Ideal S1x1024 .f32) (ix2 0 k)
      = (m (c.tc.loc main_arg7) : FVec Ideal S1024 .f32) (ix1 k) := by
  refine (?_ : _ = (W9 m ρ c (Proc.devRef .tc main_arg7) : FVec Ideal S1024 .f32) (ix1 k)).trans
    (congrFun (W9_args m ρ c main_arg7 (by decide)) _)
  after_results_simp
  pointwise

theorem up10 (k : Fin 1024) (j : Fin 4096) :
    (W10 m ρ c (Proc.devRef .tc main_v119) : FVec Ideal S1024x4096 .bf16) (ix2 k j)
      = (m (c.tc.loc main_arg8) : FVec Ideal S1024x4096 .f32) (ix2 k j) := by
  refine (?_ : _ = (W9 m ρ c (Proc.devRef .tc main_arg8) : FVec Ideal S1024x4096 .f32) (ix2 k j)).trans
    (congrFun (W9_args m ρ c main_arg8 (by decide)) _)
  after_results_simp
  pointwise

theorem dn10 (k : Fin 4096) (j : Fin 1024) :
    (W10 m ρ c (Proc.devRef .tc main_v120) : FVec Ideal S4096x1024 .bf16) (ix2 k j)
      = (m (c.tc.loc main_arg9) : FVec Ideal S4096x1024 .f32) (ix2 k j) := by
  refine (?_ : _ = (W9 m ρ c (Proc.devRef .tc main_arg9) : FVec Ideal S4096x1024 .f32) (ix2 k j)).trans
    (congrFun (W9_args m ρ c main_arg9 (by decide)) _)
  after_results_simp
  pointwise

theorem g310 (k : Fin 1024) :
    (W10 m ρ c (Proc.devRef .tc main_v121) : FVec Ideal S1x1024 .f32) (ix2 0 k)
      = (m (c.tc.loc main_arg10) : FVec Ideal S1024 .f32) (ix1 k) := by
  refine (?_ : _ = (W9 m ρ c (Proc.devRef .tc main_arg10) : FVec Ideal S1024 .f32) (ix1 k)).trans
    (congrFun (W9_args m ρ c main_arg10 (by decide)) _)
  after_results_simp
  pointwise

theorem x10 (r : Fin 32768) (e : Fin 1024) :
    (W10 m ρ c (Proc.devRef .tc main_v0) : FVec Ideal S32768x1024 .f32) (ix2 r e)
      = (m (c.tc.loc main_arg0) : FVec Ideal S16x2048x1024 .f32)
          (ix3 ⟨r.val / 2048, by have := r.isLt; omega⟩ ⟨r.val % 2048, by omega⟩ e) := by
  rw [W10_of m ρ c main_v0 (by decide), W9_of m ρ c main_v0 (by decide), W8_of m ρ c main_v0 (by decide),
    W7_of m ρ c main_v0 (by decide), W6_of m ρ c main_v0 (by decide), W5_of m ρ c main_v0 (by decide),
    W4_of m ρ c main_v0 (by decide), W3_of m ρ c main_v0 (by decide), W2_of m ρ c main_v0 (by decide)]
  exact HostIn.x1 m ρ c r e

theorem out12 (b : Fin 16) (s : Fin 2048) (e : Fin 1024) :
    (W12 m ρ c (Proc.devRef .tc main_v123) : FVec Ideal S16x2048x1024 .f32) (ix3 b s e)
      = (W11 m ρ c (Proc.devRef .tc main_v122) : FVec Ideal S32768x1024 .f32)
          (ix2 ⟨b.val * 2048 + s.val, by have := b.isLt; have := s.isLt; omega⟩ e) := by
  after_results_simp
  pointwise

end Cert.LayerIdeal.HostLast

end
-- ==== Proof.MlpBlock.lean ====
/- What one grid point of the output kernel computes: row by row, `MlpRows.row` of its input blocks. -/
module

public import proofs.«01_k».proof.Proof.MlpRows
public import proofs.«01_k».proof.Proof.Gen.LayerIdeal.Frame
public import Idealize.ShloMosaic.Lib.Pipeline.ValueKit

@[expose] public section

set_option maxRecDepth 16384

noncomputable section

namespace Cert.LayerIdeal.MlpBlock

open Cert.LayerIdeal Cert.LayerIdeal.Gen Cert.MlpRows Idealize.ShloMosaic Idealize.SL.Sem

variable (x0 : FVec Ideal S512x1024 .f32) (x1 x2 : FVec Ideal S512x512 .bf16) (x3 : FVec Ideal S1024x1024 .bf16)
  (x4 : FVec Ideal S1x1024 .f32) (x5 : FVec Ideal S1024x4096 .bf16) (x6 : FVec Ideal S4096x1024 .bf16)
  (x7 : FVec Ideal S1x1024 .f32)

/-- The residual row of row `r` of the blocks. -/
abbrev res (r : Fin 512) : Fin 1024 → EReal :=
  resid (fun n => x0 (ix2 r n)) (fun k => x1 (ix2 r k)) (fun k => x2 (ix2 r k)) (fun k n => x3 (ix2 k n))

/-- The first intermediate array of the body is the residual. -/
theorem pay7_at (r : Fin 512) (n : Fin 1024) :
    k3_pay7 (F := Ideal) x0 x1 x2 x3 x4 x5 x6 x7 (ix2 r n) = res x0 x1 x2 x3 r n := by
  pointwise [k3_pay7, k3_pay2, resid]
  rw [← add_assoc]

/-- The second is the residual, normalised. -/
theorem pay8_at (r : Fin 512) (n : Fin 1024) :
    k3_pay8 (F := Ideal) x0 x1 x2 x3 x4 x5 x6 x7 (ix2 r n) = rms (res x0 x1 x2 x3 r) (fun n => x4 (ix2 0 n)) n := by
  have e : ∀ n, k3_pay2 (F := Ideal) (View.ld x0 r3_0) (View.ld x1 r3_1) (View.ld x3 r3_2) (View.ld x2 r3_1)
      (View.ld x3 r3_3) (ix2 r n) = res x0 x1 x2 x3 r n := fun n => pay7_at x0 x1 x2 x3 x4 x5 x6 x7 r n
  pointwise [k3_pay8, k3_pay3]
  simp only [e, rms]

/-- The third is the first slice of the hidden units. -/
theorem pay9_at (r : Fin 512) (c : Fin 1024) :
    k3_pay9 (F := Ideal) x0 x1 x2 x3 x4 x5 x6 x7 (ix2 r c)
      = unitOut (rms (res x0 x1 x2 x3 r) (fun n => x4 (ix2 0 n))) (fun k j => x5 (ix2 k j)) (unit 0 c) := by
  have e : ∀ n, k3_pay3 (F := Ideal) (View.ld x0 r3_0) (View.ld x1 r3_1) (View.ld x3 r3_2) (View.ld x2 r3_1)
      (View.ld x3 r3_3) (View.ld x4 r3_4) (ix2 r n) = rms (res x0 x1 x2 x3 r) (fun n => x4 (ix2 0 n)) n :=
    fun n => pay8_at x0 x1 x2 x3 x4 x5 x6 x7 r n
  pointwise [k3_pay9, k3_pay4]
  simp only [e, unitOut]
  blk_point

/-- The residual plus the feed-forward row, the four slices put together. -/
theorem pay5_at (r : Fin 512) (n : Fin 1024) :
    k3_pay5 (F := Ideal) (k3_pay7 x0 x1 x2 x3 x4 x5 x6 x7) (k3_pay8 x0 x1 x2 x3 x4 x5 x6 x7)
        (k3_pay9 x0 x1 x2 x3 x4 x5 x6 x7) (View.ld x6 r3_6) (View.ld x5 r3_7) (View.ld x6 r3_8) (View.ld x5 r3_9)
        (View.ld x6 r3_10) (View.ld x5 r3_11) (View.ld x6 r3_12) (ix2 r n)
      = res x0 x1 x2 x3 r n + ff (rms (res x0 x1 x2 x3 r) (fun n => x4 (ix2 0 n))) (fun k j => x5 (ix2 k j))
          (fun j n => x6 (ix2 j n)) n := by
  rw [ff_slices]
  pointwise [k3_pay5]
  simp only [pay7_at, pay8_at, pay9_at, unitOut]
  generalize rms (res x0 x1 x2 x3 r) (fun n => x4 (ix2 0 n)) = h
  blk_point

/-- The body's result, row by row. -/
theorem out_at (r : Fin 512) (n : Fin 1024) :
    out3_8 (F := Ideal) x0 x1 x2 x3 x4 x5 x6 x7 (ix2 r n)
      = row (fun n => x0 (ix2 r n)) (fun k => x1 (ix2 r k)) (fun k => x2 (ix2 r k)) (fun k n => x3 (ix2 k n))
          (fun n => x4 (ix2 0 n)) (fun k j => x5 (ix2 k j)) (fun j n => x6 (ix2 j n)) (fun n => x7 (ix2 0 n)) n := by
  have e := pay5_at x0 x1 x2 x3 x4 x5 x6 x7 r
  unfold out3_8
  frame_out
  pointwise [k3_pay1, k3_pay6]
  simp only [e, row]
  unfold rms
  blk_point

end Cert.LayerIdeal.MlpBlock

end
-- ==== Proof.MlpFinal.lean ====
/- The array the output call leaves, and with it the result of the whole layer, at an index. -/
module

public import proofs.«01_k».proof.Proof.AttnFinal
public import proofs.«01_k».proof.Proof.FourFinal
public import proofs.«01_k».proof.Proof.HostLast
public import proofs.«01_k».proof.Proof.MlpBlock

@[expose] public section

set_option maxRecDepth 16384

noncomputable section

namespace Cert.LayerIdeal.MlpFinal

open Cert.LayerIdeal Cert.LayerIdeal.Gen Cert.MlpRows Cert.LayerIdeal.HostLast Idealize.ShloMosaic Idealize.SL.Sem
open Idealize.ShloMosaic.TcCoe
open Idealize.ShloMosaic.Pipeline (Dat)

variable (m : (ℓ : Loc nD τ sig) → Buf (Elt Ideal) ℓ) (ρ : Dev nD → PrngReg) (c : Dev nD)

/-- Which block each window holds at grid point `t`: rows `512 t …` of the row arrays, the whole of each weight. -/
theorem idx : ∀ t : Fin cfg3.N, win3_0.index t = ![t.val, 0] ∧ win3_1.index t = ![t.val, 0]
    ∧ win3_2.index t = ![t.val, 0] ∧ win3_3.index t = ![0, 0] ∧ win3_4.index t = ![0, 0] ∧ win3_5.index t = ![0, 0]
    ∧ win3_6.index t = ![0, 0] ∧ win3_7.index t = ![0, 0] ∧ win3_8.index t = ![t.val, 0] :=
  (by decide +kernel : ∀ t : Fin grid3.N, _)

/-- One row of the result, from the argument arrays and the two mixed arrays. -/
def one (a b : FVec Ideal S32768x512 .bf16) (r : Fin 32768) (e : Fin 1024) : EReal :=
  row (fun n => (m (c.tc.loc main_arg0) : FVec Ideal S16x2048x1024 .f32)
      (ix3 ⟨r.val / 2048, by have := r.isLt; omega⟩ ⟨r.val % 2048, by omega⟩ n))
    (fun k => a (ix2 r k)) (fun k => b (ix2 r k))
    (fun k n => (m (c.tc.loc main_arg6) : FVec Ideal S1024x1024 .f32) (ix2 k n))
    (fun n => (m (c.tc.loc main_arg7) : FVec Ideal S1024 .f32) (ix1 n))
    (fun k j => (m (c.tc.loc main_arg8) : FVec Ideal S1024x4096 .f32) (ix2 k j))
    (fun j n => (m (c.tc.loc main_arg9) : FVec Ideal S4096x1024 .f32) (ix2 j n))
    (fun n => (m (c.tc.loc main_arg10) : FVec Ideal S1024 .f32) (ix1 n)) e

/-- The array. -/
def O : FVec Ideal S32768x1024 .f32 := fun i => one m c (AttnFinal.A m c) (FourFinal.B m c) (i 0) (i 1)

theorem keptA : (W10 m ρ c (Proc.devRef .tc main_v57) : FVec Ideal S32768x512 .bf16) = AttnFinal.A m c := by
  refine Eq.trans ?_ (AttnFinal.out m ρ c)
  rw [W10_of m ρ c main_v57 (by decide), W9_of m ρ c main_v57 (by decide), W8_of m ρ c main_v57 (by decide),
    W7_of m ρ c main_v57 (by decide), W6_of m ρ c main_v57 (by decide), W5_of m ρ c main_v57 (by decide)]
  exact W4_of m ρ c main_v57 (by decide)

theorem keptB : (W10 m ρ c (Proc.devRef .tc main_v116) : FVec Ideal S32768x512 .bf16) = FourFinal.B m c :=
  (W10_of m ρ c main_v116 (by decide)).trans (FourFinal.out m ρ c)

theorem point (t : Fin cfg3.N) (r : Fin 512) (n : Fin 1024) :
    out3_8 (F := Ideal) (iblk3 (V10 m ρ) c 0 t) (iblk3 (V10 m ρ) c 1 t) (iblk3 (V10 m ρ) c 2 t) (iblk3 (V10 m ρ) c 3 t)
        (iblk3 (V10 m ρ) c 4 t) (iblk3 (V10 m ρ) c 5 t) (iblk3 (V10 m ρ) c 6 t) (iblk3 (V10 m ρ) c 7 t) (ix2 r n)
      = O m c (ix2 (⟨t.val * 512 + r.val, by have ht : t.val < 64 := t.isLt; have := r.isLt; omega⟩ : Fin 32768) n) := by
  have ht : t.val < 64 := t.isLt
  have hr := r.isLt
  refine (MlpBlock.out_at _ _ _ _ _ _ _ _ r n).trans ?_
  show _ = one m c (AttnFinal.A m c) (FourFinal.B m c) (⟨t.val * 512 + r.val, by omega⟩ : Fin 32768) n
  unfold one
  congr 1 <;> funext i
  · refine Eq.trans ?_ (x10 m ρ c _ i)
    blk_point [iblk3, idx t]
  · rw [← keptA m ρ c]
    blk_point [iblk3, idx t]
  · rw [← keptB m ρ c]
    blk_point [iblk3, idx t]
  · funext j
    refine Eq.trans ?_ (wo10 m ρ c i j)
    blk_point [iblk3, idx t]
  · refine Eq.trans ?_ (g210 m ρ c i)
    blk_point [iblk3, idx t]
  · funext j
    refine Eq.trans ?_ (up10 m ρ c i j)
    blk_point [iblk3, idx t]
  · funext j
    refine Eq.trans ?_ (dn10 m ρ c i j)
    blk_point [iblk3, idx t]
  · refine Eq.trans ?_ (g310 m ρ c i)
    blk_point [iblk3, idx t]

theorem out : (W11 m ρ c (Proc.devRef .tc main_v122) : FVec Ideal S32768x1024 .f32) = O m c := by
  refine (W11_arr m ρ c 8).trans ?_
  refine (dat3 (V10 m ρ) c).arrAt_eq_of_covers 8 _ (by decide +kernel) fun t _ y => ?_
  blk_simp
  rw [after3_8]
  idx_vars y
  refine (point m ρ c t _ _).trans ?_
  blk_ext [idx t]

/-- The layer's result at batch `b`, token `s`, lane `e`. -/
theorem whole (b : Fin 16) (s : Fin 2048) (e : Fin 1024) :
    (W12 m ρ c (Proc.devRef .tc main_v123) : FVec Ideal S16x2048x1024 .f32) (ix3 b s e)
      = one m c (AttnFinal.A m c) (FourFinal.B m c) ⟨b.val * 2048 + s.val, by have := b.isLt; have := s.isLt; omega⟩ e := by
  refine (out12 m ρ c b s e).trans ?_
  rw [out]
  rfl

end Cert.LayerIdeal.MlpFinal

end
-- ==== Proof.RefIn.lean ====
/- The reference read at an index, up to the scores: the projection, the normalised heads, the angles. -/
module

public import proofs.«01_k».proof.Proof.Angles
public import proofs.«01_k».proof.Proof.Gen.LayerRefIdeal.Run
public import Idealize.ShloMosaic.Lib.Pointwise

@[expose] public section

set_option maxRecDepth 16384

noncomputable section

namespace Cert.LayerRefIdeal.Reads

open Cert.LayerRefIdeal Cert.LayerRefIdeal.Value Cert.Spec Cert.Angles Idealize.ShloMosaic Idealize.SL.Sem

variable (V : Valuation τ sig (Elt Ideal))

/-- The arguments, at their shapes. -/
abbrev ax : FVec Ideal S16x2048x1024 .f32 := V (Proc.devRef .tc main_arg0)
abbrev ag : FVec Ideal S1024 .f32 := V (Proc.devRef .tc main_arg1)
abbrev aw : FVec Ideal S1024x1280 .f32 := V (Proc.devRef .tc main_arg2)
abbrev aq : FVec Ideal S64 .f32 := V (Proc.devRef .tc main_arg3)
abbrev ak : FVec Ideal S64 .f32 := V (Proc.devRef .tc main_arg4)
abbrev af : FVec Ideal S8x64x64 .f32 := V (Proc.devRef .tc main_arg5)

/-- A token's projection. -/
def tok (b : Fin 16) (s : Fin 2048) : Fin 1280 → EReal :=
  proj (fun d => ax V (ix3 b s d)) (fun d => ag V (ix1 d)) (fun d e => aw V (ix2 d e))

/-- 64 columns of a token's projection, from column `64 h`. -/
def col (b : Fin 16) (s : Fin 2048) (h : Fin 20) (i : Fin 64) : EReal :=
  tok V b s ⟨64 * h.val + i.val, by have := h.isLt; have := i.isLt; omega⟩

theorem v13 (b : Fin 16) (s : Fin 2048) (e : Fin 1280) :
    (res_main_v13 V : FVec Ideal S16x2048x1280 .f32) (ix3 b s e) = tok V b s e := by
  pointwise [res_main_v13]
  rfl

theorem v18 (b : Fin 16) (s : Fin 2048) (h : Fin 8) (i : Fin 64) :
    (res_main_v18 V : FVec Ideal S16x2048x8x64 .f32) (ix4 b s h i) = col V b s ⟨h.val, by have := h.isLt; omega⟩ i := by
  have hh := h.isLt
  have hi := i.isLt
  pointwise [res_main_v18]
  rw [v13]
  exact congrArg (tok V b s) (Fin.ext (by show h.val * 64 + i.val = 64 * h.val + i.val; omega))

theorem v19 (b : Fin 16) (s : Fin 2048) (h : Fin 2) (i : Fin 64) :
    (res_main_v19 V : FVec Ideal S16x2048x2x64 .f32) (ix4 b s h i) = col V b s ⟨8 + h.val, by have := h.isLt; omega⟩ i := by
  have hh := h.isLt
  have hi := i.isLt
  pointwise [res_main_v19]
  rw [v13]
  exact congrArg (tok V b s) (Fin.ext (by show 512 + (h.val * 64 + i.val) = 64 * (8 + h.val) + i.val; omega))

theorem v179 (b : Fin 16) (s : Fin 2048) (h : Fin 8) (i : Fin 64) :
    (res_main_v179 V : FVec Ideal S16x2048x8x64 .f32) (ix4 b s h i) = col V b s ⟨12 + h.val, by have := h.isLt; omega⟩ i := by
  have hh := h.isLt
  have hi := i.isLt
  pointwise [res_main_v179]
  rw [v13]
  exact congrArg (tok V b s) (Fin.ext (by show 768 + (h.val * 64 + i.val) = 64 * (12 + h.val) + i.val; omega))

theorem v34 (b : Fin 16) (h : Fin 8) (s : Fin 2048) (i : Fin 64) :
    (res_main_v34 V : FVec Ideal S16x8x2048x64 .f32) (ix4 b h s i)
      = col V b s ⟨h.val, by have := h.isLt; omega⟩ i * inv (col V b s ⟨h.val, by have := h.isLt; omega⟩) * aq V (ix1 i) := by
  pointwise [res_main_v34]
  simp only [v18]
  rfl

theorem v48 (b : Fin 16) (h : Fin 2) (s : Fin 2048) (i : Fin 64) :
    (res_main_v48 V : FVec Ideal S16x2x2048x64 .f32) (ix4 b h s i)
      = col V b s ⟨8 + h.val, by have := h.isLt; omega⟩ i * inv (col V b s ⟨8 + h.val, by have := h.isLt; omega⟩) * ak V (ix1 i) := by
  pointwise [res_main_v48]
  simp only [v19]
  rfl

theorem v72 (s : Fin 2048) (k : Fin 16) : (res_main_v72 V : FVec Ideal S2048x16 .f32) (ix2 s k) = rot s ⟨k.val, by have := k.isLt; omega⟩ := by
  have hk := k.isLt
  pointwise [res_main_v72, res_main_v66]
  exact rot_of s _ _ _ (by rw [if_pos (by show k.val < 32; omega)]) (by show _ = k.val % 16; omega)

theorem v78 (s : Fin 2048) (k : Fin 16) : (res_main_v78 V : FVec Ideal S2048x16 .f32) (ix2 s k) = rot s ⟨32 + k.val, by have := k.isLt; omega⟩ := by
  have hk := k.isLt
  pointwise [res_main_v78, res_main_v66]
  exact rot_of s _ _ _ (by rw [if_neg (by show ¬ 32 + k.val < 32; omega)]) (by show _ = (32 + k.val) % 16; omega)

/-- The query head of a token. -/
def qh (b : Fin 16) (h : Fin 8) (s : Fin 2048) : Fin 64 → EReal :=
  qhead (col V b s ⟨h.val, by have := h.isLt; omega⟩) (fun i => aq V (ix1 i)) (rot s)

/-- The key head of a token. -/
def kh (b : Fin 16) (g : Fin 2) (s : Fin 2048) : Fin 64 → EReal :=
  khead (col V b s ⟨8 + g.val, by have := g.isLt; omega⟩) (fun i => ak V (ix1 i)) (rot s)

theorem rot_runs (s : Fin 2048) (d d' : Fin 64) (h : d.val < 32 ↔ d'.val < 32) (h' : d.val % 16 = d'.val % 16) :
    rot s d = rot s d' := by
  unfold rot; rw [h', if_congr h rfl rfl]

/-- The rotation written as four runs of 16 lanes. -/
theorem rope_runs (f : Fin 64 → EReal) (s : Fin 2048) (d : Fin 64) :
    (if h : d.val < 32 then
      if h1 : d.val < 16 then f d * Ideal.cos (rot s ⟨d.val, by omega⟩) - f ⟨16 + d.val, by omega⟩ * Ideal.sin (rot s ⟨d.val, by omega⟩)
      else f ⟨d.val - 16, by omega⟩ * Ideal.sin (rot s ⟨d.val - 16, by omega⟩)
        + f ⟨16 + (d.val - 16), by omega⟩ * Ideal.cos (rot s ⟨d.val - 16, by omega⟩)
    else
      if h1 : d.val - 32 < 16 then f ⟨32 + (d.val - 32), by omega⟩ * Ideal.cos (rot s ⟨32 + (d.val - 32), by omega⟩)
        - f ⟨32 + (16 + (d.val - 32)), by omega⟩ * Ideal.sin (rot s ⟨32 + (d.val - 32), by omega⟩)
      else f ⟨32 + (d.val - 32 - 16), by omega⟩ * Ideal.sin (rot s ⟨32 + (d.val - 32 - 16), by omega⟩)
        + f ⟨32 + (16 + (d.val - 32 - 16)), by omega⟩ * Ideal.cos (rot s ⟨32 + (d.val - 32 - 16), by omega⟩))
      = rope f (rot s) d := by
  have hd := d.isLt
  have e : ∀ (k k' : ℕ) (hk : k < 64) (hk' : k' < 64), k = k' → f ⟨k, hk⟩ = f ⟨k', hk'⟩ := by
    intro k k' hk hk' h; subst h; rfl
  have e' : ∀ (k k' : ℕ) (hk : k < 64) (hk' : k' < 64), (k < 32 ↔ k' < 32) → k % 16 = k' % 16
      → rot s ⟨k, hk⟩ = rot s ⟨k', hk'⟩ := fun k k' hk hk' h h' => rot_runs s _ _ h h'
  unfold rope
  by_cases h : d.val < 32 <;> by_cases h2 : d.val % 32 < 16
  · rw [dif_pos h, dif_pos (by omega), dif_pos h2, e (16 + d.val) (d.val + 16) _ (by omega) (by omega)]
  · rw [dif_pos h, dif_neg (by omega), dif_neg h2, e' (d.val - 16) d.val _ hd (by omega) (by omega),
      e (16 + (d.val - 16)) d.val _ hd (by omega)]
  · rw [dif_neg h, dif_pos (by omega), dif_pos h2, e' (32 + (d.val - 32)) d.val _ hd (by omega) (by omega),
      e (32 + (d.val - 32)) d.val _ hd (by omega), e (32 + (16 + (d.val - 32))) (d.val + 16) _ _ (by omega)]
  · rw [dif_neg h, dif_neg (by omega), dif_neg h2, e' (32 + (d.val - 32 - 16)) d.val _ hd (by omega) (by omega),
      e (32 + (d.val - 32 - 16)) (d.val - 16) _ _ (by omega), e (32 + (16 + (d.val - 32 - 16))) d.val _ hd (by omega)]

theorem v164 (b : Fin 16) (g : Fin 2) (r : Fin 4) (s x : Fin 2048) :
    (res_main_v164 V : FVec Ideal S16x2x4x2048x2048 .f32) (ix5 b g r s x)
      = score (qh V b ⟨g.val * 4 + r.val, by have := g.isLt; have := r.isLt; omega⟩ s) (kh V b g x) := by
  pointwise [res_main_v164, res_main_v79, res_main_v80, res_main_v81, res_main_v82, res_main_v83, res_main_v99, res_main_v100, res_main_v101, res_main_v102, res_main_v103, res_main_v120, res_main_v121, res_main_v122, res_main_v123, res_main_v124, res_main_v140, res_main_v141, res_main_v142, res_main_v143, res_main_v144]
  simp only [v34, v48, v72, v78]
  unfold score
  refine congrArg (fun f : Fin 64 → EReal => ∑ d, f d) (funext fun d => ?_)
  beta_reduce
  exact congrArg₂ (fun p q : EReal => p * q)
    (congrArg (fun p : EReal => p * Ideal.ofBits .f32 0x3E000000#32)
      (rope_runs (fun i => col V b s ⟨g.val * 4 + r.val, _⟩ i * inv (col V b s ⟨g.val * 4 + r.val, _⟩) * aq V (ix1 i)) s d))
    (rope_runs (fun i => col V b x ⟨8 + g.val, _⟩ i * inv (col V b x ⟨8 + g.val, _⟩) * ak V (ix1 i)) x d)

end Cert.LayerRefIdeal.Reads

end
-- ==== Proof.RefMix.lean ====
/- The reference read at an index, from the scores to the residual: attention of every head, the Fourier part, the
   output projection. -/
module

public import proofs.«01_k».proof.Proof.RefIn
public import Idealize.ShloMosaic.Lib.Tactic.CleanTypes

@[expose] public section

set_option maxRecDepth 16384

noncomputable section

namespace Cert.LayerRefIdeal.Reads

open Cert.LayerRefIdeal Cert.LayerRefIdeal.Gen Cert.LayerRefIdeal.Value Cert.Spec Cert.Angles Idealize.ShloMosaic Idealize.SL.Sem

variable (V : Valuation τ sig (Elt Ideal))

theorem wBot : Ideal.ofBits .f32 0xFF800000#32 = (⊥ : EReal) := by simp [Ideal.ofBits, Ideal.ieee]

/-- The greatest entry along the last of five axes, whatever the sizes. -/
theorem fold_last {a b c d e : ℕ} (h : (⟨5, ![a, b, c, d, e]⟩ : Shape).ReducesTo [4] ⟨4, ![a, b, c, d]⟩) {u : Shape} (hu : 0 < u.numel)
    (x : FVec Ideal ⟨5, ![a, b, c, d, e]⟩ .f32) (i : Fin a) (j : Fin b) (k : Fin c) (l : Fin d) :
    Host.reduce (FloatOps.maximumf (F := Ideal) (φ := .f32)) x (constant u .f32 0xFF800000#32) h hu (ix4 i j k l)
      = Finset.univ.fold max ⊥ fun z => x (ix5 i j k l z) := by
  pointwise
  rw [wBot]

/-- The greatest score of each query. -/
def tops (x : FVec Ideal S16x2x4x2048x2048 .f32) : FVec Ideal S16x2x4x2048 .f32 :=
  Host.reduce FloatOps.maximumf x (constant S_ .f32 0xFF800000#32) reducesTo_S16x2x4x2048x2048_S16x2x4x2048_d4 h_S_

theorem tops_at (x : FVec Ideal S16x2x4x2048x2048 .f32) (b : Fin 16) (g : Fin 2) (r : Fin 4) (s : Fin 2048) :
    tops x (ix4 b g r s) = Finset.univ.fold max ⊥ fun z => x (ix5 b g r s z) :=
  fold_last reducesTo_S16x2x4x2048x2048_S16x2x4x2048_d4 h_S_ x b g r s

/-- One number per query, spread over the keys. -/
def spread (y : FVec Ideal S16x2x4x2048 .f32) : FVec Ideal S16x2x4x2048x2048 .f32 :=
  broadcastInDim S16x2x4x2048x2048 ![0, 1, 2, 3, 4] bcast_S16x2x4x2048x1_S16x2x4x2048x2048_0_1_2_3_4
    (broadcastInDim S16x2x4x2048x1 ![0, 1, 2, 3] bcast_S16x2x4x2048_S16x2x4x2048x1_0_1_2_3 y)

theorem spread_at (y : FVec Ideal S16x2x4x2048 .f32) (b : Fin 16) (g : Fin 2) (r : Fin 4) (s z : Fin 2048) :
    spread y (ix5 b g r s z) = y (ix4 b g r s) := by
  pointwise [spread]

/-- The larger of each entry and minus infinity. -/
def floored (y : FVec Ideal S16x2x4x2048 .f32) : FVec Ideal S16x2x4x2048 .f32 :=
  maximumf (broadcastInDim S16x2x4x2048 ![] bcast_S_S16x2x4x2048 (constant S_ .f32 0xFF800000#32)) y

theorem floored_at (y : FVec Ideal S16x2x4x2048 .f32) (i : S16x2x4x2048.Idx) : floored y i = y i := by
  have h : floored y i = max (Ideal.ofBits .f32 0xFF800000#32) (y i) := rfl
  rw [h, wBot]
  exact max_eq_right bot_le

/-- The shifted exponentials of an array of scores along its last axis. -/
def shifted (x : FVec Ideal S16x2x4x2048x2048 .f32) : FVec Ideal S16x2x4x2048x2048 .f32 :=
  Host.exp (subf x (spread (floored (tops x))))

theorem shifted_at (x : FVec Ideal S16x2x4x2048x2048 .f32) (b : Fin 16) (g : Fin 2) (r : Fin 4) (s y : Fin 2048) :
    shifted x (ix5 b g r s y) = Ideal.exp (x (ix5 b g r s y) - Finset.univ.fold max ⊥ fun z => x (ix5 b g r s z)) := by
  have h : ∀ w : FVec Ideal S16x2x4x2048x2048 .f32, Host.exp (subf x w) (ix5 b g r s y)
      = Ideal.exp (x (ix5 b g r s y) - w (ix5 b g r s y)) := fun _ => rfl
  unfold shifted
  rw [h, spread_at, floored_at, tops_at]

theorem v171_eq : res_main_v171 V = shifted (res_main_v164 V) := by
  unfold res_main_v171 shifted tops spread floored
  rfl

theorem v171 (b : Fin 16) (g : Fin 2) (r : Fin 4) (s x : Fin 2048) :
    (res_main_v171 V : FVec Ideal S16x2x4x2048x2048 .f32) (ix5 b g r s x)
      = weight (qh V b ⟨g.val * 4 + r.val, by have := g.isLt; have := r.isLt; omega⟩ s) (kh V b g) x := by
  rw [v171_eq, shifted_at]
  unfold weight top
  rw [v164]
  simp only [v164]

end Cert.LayerRefIdeal.Reads

end
-- ==== Proof.RefOut.lean ====
/- The reference read at an index, the residual stream: each half of the output projection's input, then the layer's
   second part. -/
module

public import proofs.«01_k».proof.Proof.RefMix

@[expose] public section

set_option maxRecDepth 16384

noncomputable section

namespace Cert.LayerRefIdeal.Reads

open Cert.LayerRefIdeal Cert.LayerRefIdeal.Gen Cert.LayerRefIdeal.Value Cert.Spec Cert.Angles Idealize.ShloMosaic Idealize.SL.Sem

variable (V : Valuation τ sig (Elt Ideal))

abbrev ao : FVec Ideal S1024x1024 .f32 := V (Proc.devRef .tc main_arg6)
abbrev a7 : FVec Ideal S1024 .f32 := V (Proc.devRef .tc main_arg7)
abbrev a8 : FVec Ideal S1024x4096 .f32 := V (Proc.devRef .tc main_arg8)
abbrev a9 : FVec Ideal S4096x1024 .f32 := V (Proc.devRef .tc main_arg9)
abbrev a10 : FVec Ideal S1024 .f32 := V (Proc.devRef .tc main_arg10)

/-- Column `x` of the attention half: head `x / 64`, place `x % 64`, over the keys of its group of four heads. -/
def att (b : Fin 16) (s : Fin 2048) (x : Fin 512) : EReal :=
  attend (qh V b ⟨x.val / 64, by have := x.isLt; omega⟩ s) (kh V b ⟨x.val / 256, by have := x.isLt; omega⟩)
    (fun y => col V b y ⟨10 + x.val / 256, by have := x.isLt; omega⟩) ⟨x.val % 64, Nat.mod_lt _ (by norm_num)⟩

/-- Column `x` of the Fourier half: group `x / 64`, output place `x % 64`. -/
def fou (b : Fin 16) (s : Fin 2048) (x : Fin 512) : EReal :=
  mix (fun t => Ideal.cos (overTokens s t)) (fun t => Ideal.sin (overTokens s t))
    (fun t => col V b t ⟨12 + x.val / 64, by have := x.isLt; omega⟩)
    (fun i j => Ideal.cos (overLanes i j)) (fun i j => Ideal.sin (overLanes i j))
    (fun i => af V (ix3 ⟨x.val / 64, by have := x.isLt; omega⟩ i ⟨x.val % 64, Nat.mod_lt _ (by norm_num)⟩))

theorem att_eq (b : Fin 16) (s : Fin 2048) (x : Fin 512) (h1 : x.val / 256 * 4 + x.val / 64 % 4 < 8) (h2 : x.val / 256 < 2)
    (h3 : 640 + (x.val / 256 * 64 + x.val % 64) < 1280) :
    ∑ y, Ideal.div (weight (qh V b ⟨x.val / 256 * 4 + x.val / 64 % 4, h1⟩ s) (kh V b ⟨x.val / 256, h2⟩) y)
        (∑ z, weight (qh V b ⟨x.val / 256 * 4 + x.val / 64 % 4, h1⟩ s) (kh V b ⟨x.val / 256, h2⟩) z)
        * tok V b y ⟨640 + (x.val / 256 * 64 + x.val % 64), h3⟩ = att V b s x := by
  have hx := x.isLt
  have e1 : (⟨x.val / 256 * 4 + x.val / 64 % 4, h1⟩ : Fin 8) = ⟨x.val / 64, by omega⟩ := Fin.ext (by
    show x.val / 256 * 4 + x.val / 64 % 4 = x.val / 64; omega)
  have e3 : (⟨640 + (x.val / 256 * 64 + x.val % 64), h3⟩ : Fin 1280)
      = ⟨64 * (10 + x.val / 256) + x.val % 64, by omega⟩ := Fin.ext (by
    show 640 + (x.val / 256 * 64 + x.val % 64) = 64 * (10 + x.val / 256) + x.val % 64; omega)
  rw [e1, e3]
  rfl

theorem v214 (b : Fin 16) (s : Fin 2048) (e : Fin 1024) :
    (res_main_v214 V : FVec Ideal S16x2048x1024 .f32) (ix3 b s e)
      = MlpRows.resid (fun n => ax V (ix3 b s n)) (att V b s) (fou V b s) (fun k n => ao V (ix2 k n)) e := by
  pointwise [res_main_v214, res_main_v187, res_main_v195]
  simp only [v171, v179, v13, MlpRows.resid, fou, mix, overTokens, overLanes]
  refine congrArg₂ (fun p q : EReal => p + q) rfl (congrArg₂ (fun p q : EReal => p + q)
    (congrArg (fun f : Fin 512 → EReal => ∑ x, f x) (funext fun x => ?_)) rfl)
  exact congrArg (fun p : EReal => p * ao V (ix2 ⟨x.val, by have := x.isLt; omega⟩ e)) (att_eq V b s x _ _ _)

theorem v232 (b : Fin 16) (s : Fin 2048) (e : Fin 1024) :
    (res_main_v232 V : FVec Ideal S16x2048x1024 .f32) (ix3 b s e)
      = MlpRows.resid (fun n => ax V (ix3 b s n)) (att V b s) (fou V b s) (fun k n => ao V (ix2 k n)) e
        + MlpRows.ff (MlpRows.rms (MlpRows.resid (fun n => ax V (ix3 b s n)) (att V b s) (fou V b s) (fun k n => ao V (ix2 k n)))
            (fun n => a7 V (ix1 n))) (fun k j => a8 V (ix2 k j)) (fun j n => a9 V (ix2 j n)) e := by
  pointwise [res_main_v232, res_main_v229]
  simp only [v214]
  rfl

/-- The last normalisation, of any array. -/
def normed (y : FVec Ideal S16x2048x1024 .f32) (g : FVec Ideal S1024 .f32) : FVec Ideal S16x2048x1024 .f32 :=
  mulf (mulf y (broadcastInDim S16x2048x1024 ![0, 1, 2] bcast_S16x2048x1_S16x2048x1024_0_1_2
      (Host.rsqrt (addf (Host.divf (broadcastInDim S16x2048x1 ![0, 1] bcast_S16x2048_S16x2048x1_0_1
        (Host.reduceAdd (mulf y y) (constant S_ .f32 0x00000000#32) reducesTo_S16x2048x1024_S16x2048_d2 h_S_))
        (broadcastInDim S16x2048x1 ![] bcast_S_S16x2048x1 (constant S_ .f32 0x44800000#32)))
        (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 g))

theorem normed_at (y : FVec Ideal S16x2048x1024 .f32) (g : FVec Ideal S1024 .f32) (b : Fin 16) (s : Fin 2048) (e : Fin 1024) :
    normed y g (ix3 b s e) = MlpRows.rms (fun k => y (ix3 b s k)) (fun k => g (ix1 k)) e := by
  pointwise [normed, MlpRows.rms]

/-- The reference's result at a token and a column. -/
theorem out (b : Fin 16) (s : Fin 2048) (e : Fin 1024) :
    normed (res_main_v232 V) (a10 V) (ix3 b s e)
      = MlpRows.row (fun n => ax V (ix3 b s n)) (att V b s) (fou V b s) (fun k n => ao V (ix2 k n))
          (fun n => a7 V (ix1 n)) (fun k j => a8 V (ix2 k j)) (fun j n => a9 V (ix2 j n)) (fun n => a10 V (ix1 n)) e := by
  rw [normed_at]
  unfold MlpRows.row
  exact congrArg (fun f => MlpRows.rms f (fun n => a10 V (ix1 n)) e) (funext fun k => v232 V b s k)

end Cert.LayerRefIdeal.Reads

end
-- ==== Proof.Equal.lean ====
/- The kernel's two mixed arrays are the reference's, entry for entry, when the arguments the precondition names are real. -/
module

public import proofs.«01_k».proof.Proof.MlpFinal
public import proofs.«01_k».proof.Proof.RefOut

@[expose] public section

set_option maxRecDepth 16384

noncomputable section

namespace Cert.Equal

open Cert.LayerIdeal Cert.LayerIdeal.Gen Cert.Spec Cert.Angles Cert.InLanes Cert.Reals Cert.LayerIdeal.InFinal Idealize.ShloMosaic Idealize.SL.Sem
open Idealize.ShloMosaic.TcCoe
open Cert.LayerRefIdeal.Reads (ax ag aw aq ak af ao a7 a8 a9 a10 tok col qh kh att fou)

variable (V : Valuation Cert.LayerRefIdeal.τ Cert.LayerRefIdeal.sig (Elt Ideal))
variable (m : (ℓ : Loc nD τ sig) → Buf (Elt Ideal) ℓ) (c : Dev nD)

/-- The reference's arguments are the kernel's. -/
structure Agree : Prop where
  h0 : ax V = (m (c.tc.loc main_arg0) : FVec Ideal S16x2048x1024 .f32)
  h1 : ag V = (m (c.tc.loc main_arg1) : FVec Ideal S1024 .f32)
  h2 : aw V = (m (c.tc.loc main_arg2) : FVec Ideal S1024x1280 .f32)
  h3 : aq V = (m (c.tc.loc main_arg3) : FVec Ideal S64 .f32)
  h4 : ak V = (m (c.tc.loc main_arg4) : FVec Ideal S64 .f32)
  h5 : af V = (m (c.tc.loc main_arg5) : FVec Ideal S8x64x64 .f32)
  h6 : ao V = (m (c.tc.loc main_arg6) : FVec Ideal S1024x1024 .f32)
  h7 : a7 V = (m (c.tc.loc main_arg7) : FVec Ideal S1024 .f32)
  h8 : a8 V = (m (c.tc.loc main_arg8) : FVec Ideal S1024x4096 .f32)
  h9 : a9 V = (m (c.tc.loc main_arg9) : FVec Ideal S4096x1024 .f32)
  h10 : a10 V = (m (c.tc.loc main_arg10) : FVec Ideal S1024 .f32)

/-- The arguments from the second to the sixth have real entries. -/
structure Real : Prop where
  r1 : ∀ i, IsReal (ag V i)
  r2 : ∀ i, IsReal (aw V i)
  r3 : ∀ i, IsReal (aq V i)
  r4 : ∀ i, IsReal (ak V i)
  r5 : ∀ i, IsReal (af V i)

/-- The row of the flattened batch that holds token `s` of sequence `b`. -/
abbrev flat (b : Fin 16) (s : Fin 2048) : Fin 32768 := ⟨b.val * 2048 + s.val, by have := b.isLt; have := s.isLt; omega⟩

variable {V m c}

theorem col_real (hr : Real V) (b : Fin 16) (s : Fin 2048) (h : Fin 20) (i : Fin 64) : IsReal (col V b s h i) :=
  proj_real (fun _ => hr.r1 _) (fun _ _ => hr.r2 _) _

theorem flat_div (b : Fin 16) (s : Fin 2048) (h : (flat b s).val / 2048 < 16) : (⟨(flat b s).val / 2048, h⟩ : Fin 16) = b := by
  have := s.isLt
  exact Fin.ext (by show (b.val * 2048 + s.val) / 2048 = b.val; omega)

theorem flat_pos (b : Fin 16) (s : Fin 2048) : pos (flat b s) = s := by
  have := s.isLt
  exact Fin.ext (by show (b.val * 2048 + s.val) % 2048 = s.val; omega)

theorem flat_row (b : Fin 16) (s y : Fin 2048) (h : (b.val * 2048 + s.val) / 2048 * 2048 + y.val < 32768) :
    (⟨(b.val * 2048 + s.val) / 2048 * 2048 + y.val, h⟩ : Fin 32768) = flat b y := by
  have := s.isLt
  exact Fin.ext (by show (b.val * 2048 + s.val) / 2048 * 2048 + y.val = b.val * 2048 + y.val; omega)

theorem tok_eq (ha : Agree V m c) (b : Fin 16) (s : Fin 2048) : tokK m c (flat b s) = tok V b s := by
  unfold tokK tok
  rw [ha.h0, ha.h1, ha.h2, flat_div]
  rw [show (⟨(flat b s).val % 2048, Nat.mod_lt _ (by norm_num)⟩ : Fin 2048) = s from flat_pos b s]

theorem col_eq (ha : Agree V m c) (b : Fin 16) (s : Fin 2048) (h h' : Fin 20) (e : h.val = h'.val) :
    InBlock.head (tokK m c (flat b s)) h = col V b s h' := by
  obtain rfl : h = h' := Fin.ext e
  rw [tok_eq ha]
  rfl

theorem place_eq (h : ℕ) (i : Fin 64) (hh : 64 * h + i.val < 512) : place (⟨64 * h + i.val, hh⟩ : Fin 512) = i := by
  have := i.isLt
  exact Fin.ext (by show (64 * h + i.val) % 64 = i.val; omega)

theorem q_eq (ha : Agree V m c) (hr : Real V) (b : Fin 16) (s : Fin 2048) (h : Fin 8) (i : Fin 64)
    (hh : 64 * h.val + i.val < 512) : Q m c (ix2 (flat b s) ⟨64 * h.val + i.val, hh⟩) = qh V b h s i := by
  have hi := i.isLt
  have hl := h.isLt
  show qheadW (InBlock.head (tokK m c (flat b s)) ⟨(64 * h.val + i.val) / 64, by omega⟩) (gq m c) (rot (pos (flat b s)))
    (place (⟨64 * h.val + i.val, hh⟩ : Fin 512)) = _
  rw [col_eq ha b s _ ⟨h.val, by omega⟩ (by show (64 * h.val + i.val) / 64 = h.val; omega), flat_pos, place_eq]
  have eg : gq m c = fun i => aq V (ix1 i) := by rw [ha.h3]; rfl
  rw [eg]
  exact qheadW_eq (col_real hr b s _) (fun _ => hr.r3 _) (rot_real s) i

theorem k_eq (ha : Agree V m c) (hr : Real V) (b : Fin 16) (s : Fin 2048) (h : Fin 8) (i : Fin 64)
    (hh : 64 * h.val + i.val < 512) :
    K m c (ix2 (flat b s) ⟨64 * h.val + i.val, hh⟩) = kh V b ⟨h.val / 4, by have := h.isLt; omega⟩ s i := by
  have hi := i.isLt
  have hl := h.isLt
  show kheadW (InBlock.head (tokK m c (flat b s)) ⟨8 + (64 * h.val + i.val) / 256, by omega⟩) (gk m c) (rot (pos (flat b s)))
    (place (⟨64 * h.val + i.val, hh⟩ : Fin 512)) = _
  rw [col_eq ha b s _ ⟨8 + h.val / 4, by omega⟩ (by show 8 + (64 * h.val + i.val) / 256 = 8 + h.val / 4; omega), flat_pos, place_eq]
  have eg : gk m c = fun i => ak V (ix1 i) := by rw [ha.h4]; rfl
  rw [eg]
  exact kheadW_eq (col_real hr b s _) i

theorem v_eq (ha : Agree V m c) (b : Fin 16) (s : Fin 2048) (h : Fin 8) (i : Fin 64) (hh : 64 * h.val + i.val < 512) :
    Vv m c (ix2 (flat b s) ⟨64 * h.val + i.val, hh⟩) = col V b s ⟨10 + h.val / 4, by have := h.isLt; omega⟩ i := by
  have hi := i.isLt
  have hl := h.isLt
  show InBlock.head (tokK m c (flat b s)) ⟨10 + (64 * h.val + i.val) / 256, by omega⟩ (place (⟨64 * h.val + i.val, hh⟩ : Fin 512)) = _
  rw [col_eq ha b s _ ⟨10 + h.val / 4, by omega⟩ (by show 10 + (64 * h.val + i.val) / 256 = 10 + h.val / 4; omega), place_eq]

/-- The attention half. -/
theorem att_eq (ha : Agree V m c) (hr : Real V) (b : Fin 16) (s : Fin 2048) (x : Fin 512) :
    AttnFinal.A m c (ix2 (flat b s) x) = att V b s x := by
  have hx := x.isLt
  show AttnFinal.one (Q m c) (K m c) (Vv m c) (flat b s) ⟨x.val / 64, by omega⟩ (place x) = _
  unfold AttnFinal.one
  simp only [flat_row]
  have e1 : (fun i : Fin 64 => Q m c (ix2 (flat b s) ⟨64 * (x.val / 64) + i.val, by have := i.isLt; omega⟩))
      = qh V b ⟨x.val / 64, by omega⟩ s := funext fun i => q_eq ha hr b s ⟨x.val / 64, by omega⟩ i _
  have e2 : (fun (y : Fin 2048) (i : Fin 64) => K m c (ix2 (flat b y) ⟨64 * (x.val / 64) + i.val, by have := i.isLt; omega⟩))
      = kh V b ⟨x.val / 256, by omega⟩ := funext fun y => funext fun i =>
    (k_eq ha hr b y ⟨x.val / 64, by omega⟩ i _).trans
      (congrArg (fun g => kh V b g y i) (Fin.ext (by show x.val / 64 / 4 = x.val / 256; omega)))
  have e3 : (fun (y : Fin 2048) (i : Fin 64) => Vv m c (ix2 (flat b y) ⟨64 * (x.val / 64) + i.val, by have := i.isLt; omega⟩))
      = fun y => col V b y ⟨10 + x.val / 256, by omega⟩ := funext fun y => funext fun i =>
    (v_eq ha b y ⟨x.val / 64, by omega⟩ i _).trans
      (congrArg (fun g => col V b y g i) (Fin.ext (by show 10 + x.val / 64 / 4 = 10 + x.val / 256; omega)))
  refine (congrFun (congr (congr (congrArg attendW e1) e2) e3) _).trans ?_
  exact attendW_eq (qhead_real (col_real hr b s _) (fun _ => hr.r3 _) (rot_real s))
    (fun y => khead_real (col_real hr b y _) (fun _ => hr.r4 _) (rot_real y)) _ _

theorem u_eq (ha : Agree V m c) (b : Fin 16) (t : Fin 2048) (g : Fin 8) (i : Fin 64) (hh : 64 * g.val + i.val < 512) :
    U m c (ix2 (flat b t) ⟨64 * g.val + i.val, hh⟩) = col V b t ⟨12 + g.val, by have := g.isLt; omega⟩ i := by
  have hi := i.isLt
  have hg := g.isLt
  show tokK m c (flat b t) ⟨768 + (64 * g.val + i.val), by omega⟩ = tok V b t ⟨64 * (12 + g.val) + i.val, by omega⟩
  rw [tok_eq ha]
  exact congrArg (tok V b t) (Fin.ext (by show 768 + (64 * g.val + i.val) = 64 * (12 + g.val) + i.val; omega))

theorem w_eq (ha : Agree V m c) (g : Fin 8) (i j : Fin 64) : FourFinal.wf m c g i j = af V (ix3 g i j) := by
  rw [ha.h5]; rfl

/-- The Fourier part of one group, with the reference's entries in place of the kernel's. -/
theorem one_eq (ha : Agree V m c) (hr : Real V) (b : Fin 16) (s : Fin 2048) (g : Fin 8) (d : Fin 64) :
    FourFinal.one m c (U m c) (flat b s) g d
      = mix (fun t => Ideal.cos (overTokens s t)) (fun t => Ideal.sin (overTokens s t))
          (fun t => col V b t ⟨12 + g.val, by have := g.isLt; omega⟩)
          (fun i j => Ideal.cos (overLanes i j)) (fun i j => Ideal.sin (overLanes i j)) (fun i => af V (ix3 g i d)) := by
  unfold FourFinal.one
  simp only [flat_row, flat_pos, u_eq ha, w_eq ha]
  exact mixW_eq (fun t => (overTokens_real s t).cos) (fun t => (overTokens_real s t).sin) (fun t i => col_real hr b t _ i)
    (fun i j => (overLanes_real i j).cos) (fun i j => (overLanes_real i j).sin) (fun i => hr.r5 _)

/-- The Fourier half. -/
theorem fou_eq (ha : Agree V m c) (hr : Real V) (b : Fin 16) (s : Fin 2048) (x : Fin 512) :
    FourFinal.B m c (ix2 (flat b s) x) = fou V b s x :=
  one_eq ha hr b s ⟨x.val / 64, by have := x.isLt; omega⟩ (place x)

/-- One entry of the layer's result. -/
theorem entry (ρ : Dev nD → PrngReg) (ha : Agree V m c) (hr : Real V) (b : Fin 16) (s : Fin 2048) (e : Fin 1024) :
    Cert.LayerRefIdeal.Reads.normed (Cert.LayerRefIdeal.Value.res_main_v232 V) (a10 V) (ix3 b s e)
      = (W12 m ρ c (Proc.devRef .tc main_v123) : FVec Ideal S16x2048x1024 .f32) (ix3 b s e) := by
  refine (Cert.LayerRefIdeal.Reads.out V b s e).trans (Eq.trans ?_ (MlpFinal.whole m ρ c b s e).symm)
  unfold MlpFinal.one
  rw [show (fun k => AttnFinal.A m c (ix2 (flat b s) k)) = att V b s from funext fun x => att_eq ha hr b s x,
    show (fun k => FourFinal.B m c (ix2 (flat b s) k)) = fou V b s from funext fun x => fou_eq ha hr b s x,
    ha.h0, ha.h6, ha.h7, ha.h8, ha.h9, ha.h10, flat_div,
    show (⟨(flat b s).val % 2048, Nat.mod_lt _ (by norm_num)⟩ : Fin 2048) = s from flat_pos b s]

end Cert.Equal

end
-- ==== Proof.Finite.lean ====
/- What the precondition says: every entry of the five arrays it names is a real number. -/
module

public import proofs.«01_k».proof.Defs
public import proofs.«01_k».proof.Proof.Reals
public import Idealize.ShloMosaic.Lib.ReduceAll
public import Idealize.ShloMosaic.Lib.Claim

@[expose] public section

set_option maxRecDepth 16384

noncomputable section

namespace Cert.Finite

open Cert.Reals Idealize.ShloMosaic

theorem top_bits : Ideal.ofBits .f32 0x7F800000#32 = ⊤ := by simp [Ideal.ofBits, Ideal.ieee]

instance : Subsingleton Cert.Pre_finite.S_.Idx := ⟨fun a b => funext fun d => d.elim0⟩

/-- The shapes the precondition's operations take fit. -/
theorem facts : Cert.Pre_finite.Facts := by
  constructor <;> first | decide +kernel | decide

instance : Cert.Pre_finite.Facts := facts

/-- Two one-bit words whose conjunction is one are one. -/
theorem and_split : ∀ a b : BitVec 1, a &&& b = 1#1 → a = 1#1 ∧ b = 1#1 := by decide

/-- An array all of whose entries pass the comparison has real entries. -/
theorem entries {s : Shape} {axes : List (Fin s.rank)} (a : FVec Ideal s .f32)
    (hb : Cert.Pre_finite.S_.BroadcastsInDim s (![] : Fin 0 → Fin s.rank)) (hr : s.ReducesTo axes Cert.Pre_finite.S_)
    (hu : 0 < Cert.Pre_finite.S_.numel) (j : Cert.Pre_finite.S_.Idx)
    (h : Host.reduce IntOp.andi (cmpf .olt (Host.absf a) (broadcastInDim s ![] hb (constant Cert.Pre_finite.S_ .f32 0x7F800000#32)))
      (constantI Cert.Pre_finite.S_ 1 1#1) hr hu j = 1#1) (i : s.Idx) : IsReal (a i) := by
  have e := Host.reduce_andi_all _ _ hr hu j h i
  have e' : Ideal.cmp .olt (max (a i) (-(a i))) (Ideal.ofBits .f32 0x7F800000#32) = 1#1 := e
  rw [top_bits] at e'
  refine IsReal.of_abs ?_
  by_contra hn
  simp [Ideal.cmp, hn] at e'

theorem read [Cert.Pre_finite.Facts] (m : (ℓ : Loc Cert.LayerIdeal.nD Cert.LayerIdeal.τ Cert.LayerIdeal.sig) → Buf (Elt Ideal) ℓ)
    (h : Cert.Pre_LayerIdeal_finite m) (c : Dev Cert.LayerIdeal.nD) :
    (∀ i, IsReal ((m ((c.tc : Thread Cert.LayerIdeal.nD Cert.LayerIdeal.τ).loc Cert.LayerIdeal.main_arg1) : FVec Ideal Cert.LayerIdeal.S1024 .f32) i))
    ∧ (∀ i, IsReal ((m ((c.tc : Thread Cert.LayerIdeal.nD Cert.LayerIdeal.τ).loc Cert.LayerIdeal.main_arg2) : FVec Ideal Cert.LayerIdeal.S1024x1280 .f32) i))
    ∧ (∀ i, IsReal ((m ((c.tc : Thread Cert.LayerIdeal.nD Cert.LayerIdeal.τ).loc Cert.LayerIdeal.main_arg3) : FVec Ideal Cert.LayerIdeal.S64 .f32) i))
    ∧ (∀ i, IsReal ((m ((c.tc : Thread Cert.LayerIdeal.nD Cert.LayerIdeal.τ).loc Cert.LayerIdeal.main_arg4) : FVec Ideal Cert.LayerIdeal.S64 .f32) i))
    ∧ (∀ i, IsReal ((m ((c.tc : Thread Cert.LayerIdeal.nD Cert.LayerIdeal.τ).loc Cert.LayerIdeal.main_arg5) : FVec Ideal Cert.LayerIdeal.S8x64x64 .f32) i)) := by
  have e := congrFun (h c) (fun d => d.elim0)
  dsimp only [Cert.Pre_finite.fn, Cert.Pre_finite.fn_part1] at e
  obtain ⟨e, h5⟩ := and_split _ _ e
  obtain ⟨e, h4⟩ := and_split _ _ e
  obtain ⟨e, h3⟩ := and_split _ _ e
  obtain ⟨h1, h2⟩ := and_split _ _ e
  exact ⟨entries _ _ _ _ _ h1, entries _ _ _ _ _ h2, entries _ _ _ _ _ h3, entries _ _ _ _ _ h4,
    entries _ _ _ _ _ h5⟩

end Cert.Finite

end
-- ==== Proof.LayerRun.lean ====
/- The run of the whole kernel, with the array it ends holding: the four calls and the host code between them are one chain
   of segments, and the last segment leaves the result at the contents `W12` gives it. -/
module

public import proofs.«01_k».proof.Proof.Gen.LayerIdeal.Frame

@[expose] public section

set_option maxRecDepth 16384

noncomputable section

namespace Cert.LayerIdeal.Whole

open Cert.LayerIdeal Cert.LayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends; the result holds what the boundary contents say, the arguments are as launched, and every
    semaphore counter is zero. -/
theorem run : θ_run defs (onTc (τ := τ) (main (F := F))) ⟨m, fun _ => 0, ρ⟩ (fun r => (∀ c : Dev nD,
      r.2.mem ((c.tc : Thread nD τ).loc main_v123) = W12 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v123 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩), funext fun g => hz g (.inr (no_unscoped g.2))⟩)

end Cert.LayerIdeal.Whole

end
-- ==== Proof.Claims.lean ====
/- The value claim of the whole layer: kernel and reference leave the same array, for all arguments that satisfy the
   precondition. With it, that the reference runs and keeps its arguments. -/
module

public import proofs.«01_k».proof.Proof.Equal
public import proofs.«01_k».proof.Proof.Finite
public import proofs.«01_k».proof.Proof.LayerRun
public import Idealize.ShloMosaic.Lib.Quiescent

@[expose] public section

set_option maxRecDepth 16384

noncomputable section

namespace Cert

open Idealize.ShloMosaic Idealize.ShloMosaic.StableHlo Idealize.SL.Sem

/-- The reference runs, keeps its arguments and has no semaphores. -/
theorem reference_frame : Cert.quiescent_LayerRefIdeal := fun m g _ =>
  (θ_run Cert.LayerRefIdeal.defs _ _).mono (fun r h => ⟨fun c => (h c).2, sem_eq_zero_of_no_sems (by decide) r.2⟩)
    (Cert.LayerRefIdeal.Value.run (F := Ideal) m g)

/-- The result the reference leaves is the one the kernel leaves. -/
theorem result_equal (V : Valuation Cert.LayerRefIdeal.τ Cert.LayerRefIdeal.sig (Elt Ideal))
    (m : (ℓ : Loc Cert.LayerIdeal.nD Cert.LayerIdeal.τ Cert.LayerIdeal.sig) → Buf (Elt Ideal) ℓ)
    (ρ : Dev Cert.LayerIdeal.nD → PrngReg) (c : Dev Cert.LayerIdeal.nD) (ha : Equal.Agree V m c) (hr : Equal.Real V) :
    Cert.LayerRefIdeal.Reads.normed (Cert.LayerRefIdeal.Value.res_main_v232 V) (Cert.LayerRefIdeal.Reads.a10 V)
      = (Cert.LayerIdeal.Gen.W12 m ρ c (Proc.devRef .tc Cert.LayerIdeal.main_v123) : FVec Ideal Cert.LayerIdeal.S16x2048x1024 .f32) := by
  funext i
  idx_vars i
  exact Equal.entry ρ ha hr _ _ _

/-- Over exact arithmetic the kernel leaves the array its reference leaves. -/
theorem layer_equal : Cert.algebraic_LayerIdeal_LayerRefIdeal_pre_finite := by
  intro m g m' g' hpre hagree
  refine ⟨fun c => Cert.LayerIdeal.Gen.W12 m g c (Proc.devRef .tc Cert.LayerIdeal.main_v123), ?_, ?_⟩
  · exact (θ_run Cert.LayerIdeal.defs _ _).mono (fun r h => h.1) (Cert.LayerIdeal.Whole.run m g)
  · refine (θ_run Cert.LayerRefIdeal.defs _ _).mono (fun r h c => ⟨(h c).1.trans ?_, (h c).2⟩) (Cert.LayerRefIdeal.Value.run (F := Ideal) m' g')
    obtain ⟨h0, h1, h2, h3, h4, h5, h6, h7, h8, h9, h10⟩ := hagree c
    obtain ⟨r1, r2, r3, r4, r5⟩ := Finite.read m hpre c
    have ha : Equal.Agree (launchContents m' c) m c := ⟨h0, h1, h2, h3, h4, h5, h6, h7, h8, h9, h10⟩
    refine result_equal (launchContents m' c) m g c ha ⟨?_, ?_, ?_, ?_, ?_⟩
    · rw [ha.h1]; exact r1
    · rw [ha.h2]; exact r2
    · rw [ha.h3]; exact r3
    · rw [ha.h4]; exact r4
    · rw [ha.h5]; exact r5

end Cert

end
-- ==== Proof.lean ====
module

public import proofs.«01_k».proof.Defs
public import Idealize.ShloMosaic.Lib.Claim
public import proofs.«01_k».proof.Proof.Gen.LayerIdeal.Frame
public import proofs.«01_k».proof.Proof.Gen.LayerRefIdeal.Run
public import proofs.«01_k».proof.Proof.Gen.Layer.Frame
public import proofs.«01_k».proof.Proof.Claims
public import Idealize.ShloMosaic.Adequacy
public import Idealize.ShloMosaic.Init

@[expose] public section

noncomputable section

-- The claims about the programs also say that every semaphore counter ends at zero; the proof shows that too.

namespace Cert.Proof

open Idealize.ShloMosaic Idealize.SL.Sem

theorem claim : Cert.Claim := ⟨Cert.Layer.Gen.facts, Cert.LayerIdeal.Gen.facts, Cert.LayerRefIdeal.Gen.facts, Cert.Finite.facts,
  fun m g _ => Cert.Layer.Gen.frame m g, fun m g _ => Cert.LayerIdeal.Gen.frame m g, fun m g _ => Cert.LayerIdeal.Gen.frame m g,
  Cert.reference_frame, fun m g _ => Cert.reference_frame m g trivial,
  trivial, Cert.layer_equal⟩

end Cert.Proof

end
